-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x14336 : Shape := ⟨3, ![2, 128, 14336]⟩
abbrev S14336x6144 : Shape := ⟨2, ![14336, 6144]⟩
abbrev S14336 : Shape := ⟨1, ![14336]⟩
abbrev S256x14336 : Shape := ⟨2, ![256, 14336]⟩
abbrev S1x14336 : Shape := ⟨2, ![1, 14336]⟩
abbrev S14336x128 : Shape := ⟨2, ![14336, 128]⟩
abbrev S256x1 : Shape := ⟨2, ![256, 1]⟩
abbrev S256x128 : Shape := ⟨2, ![256, 128]⟩
abbrev S128 : Shape := ⟨1, ![128]⟩
abbrev S1x128 : Shape := ⟨2, ![1, 128]⟩
abbrev S128x128 : Shape := ⟨2, ![128, 128]⟩
abbrev S32x14336 : Shape := ⟨2, ![32, 14336]⟩
abbrev S32 : Shape := ⟨1, ![32]⟩
abbrev S32x1 : Shape := ⟨2, ![32, 1]⟩
abbrev S1x6144 : Shape := ⟨2, ![1, 6144]⟩
abbrev S256x6144 : Shape := ⟨2, ![256, 6144]⟩
abbrev S14336x256 : Shape := ⟨2, ![14336, 256]⟩
abbrev S1x256 : Shape := ⟨2, ![1, 256]⟩
abbrev S256x256 : Shape := ⟨2, ![256, 256]⟩
abbrev S8x256 : Shape := ⟨2, ![8, 256]⟩
abbrev S512x128 : Shape := ⟨2, ![512, 128]⟩
abbrev S512x256 : Shape := ⟨2, ![512, 256]⟩
abbrev S64x8x256 : Shape := ⟨3, ![64, 8, 256]⟩
abbrev S256 : Shape := ⟨1, ![256]⟩
abbrev S256x512 : Shape := ⟨2, ![256, 512]⟩
abbrev S2x128x6144 : Shape := ⟨3, ![2, 128, 6144]⟩
abbrev S6144 : Shape := ⟨1, ![6144]⟩
abbrev S2x128 : Shape := ⟨2, ![2, 128]⟩

abbrev nBuf : Space → Nat
  | .hbm => 20
  | .vmem => 20
  | .smem => 0
  | _ => 0

abbrev bufTy : (tb : Table) → Fin (tcTables nBuf tb) → BufTy
  | .hbm, ⟨0, _⟩ => ⟨S2x128x14336, .bf16⟩
  | .hbm, ⟨1, _⟩ => ⟨S14336x6144, .bf16⟩
  | .hbm, ⟨2, _⟩ => ⟨S14336, .f32⟩
  | .hbm, ⟨3, _⟩ => ⟨S256x14336, .bf16⟩
  | .hbm, ⟨4, _⟩ => ⟨S1x14336, .f32⟩
  | .hbm, ⟨5, _⟩ => ⟨S1x14336, .f32⟩
  | .hbm, ⟨6, _⟩ => ⟨S14336x128, .f32⟩
  | .hbm, ⟨7, _⟩ => ⟨S256x14336, .i8⟩
  | .hbm, ⟨8, _⟩ => ⟨S256x14336, .bf16⟩
  | .hbm, ⟨9, _⟩ => ⟨S256x1, .f32⟩
  | .hbm, ⟨10, _⟩ => ⟨S256x1, .i32⟩
  | .hbm, ⟨11, _⟩ => ⟨S14336x6144, .i8⟩
  | .hbm, ⟨12, _⟩ => ⟨S1x6144, .f32⟩
  | .hbm, ⟨13, _⟩ => ⟨S256x6144, .bf16⟩
  | .hbm, ⟨14, _⟩ => ⟨S2x128x6144, .bf16⟩
  | .hbm, ⟨15, _⟩ => ⟨S14336, .f32⟩
  | .hbm, ⟨16, _⟩ => ⟨S6144, .f32⟩
  | .hbm, ⟨17, _⟩ => ⟨S2x128x14336, .i8⟩
  | .hbm, ⟨18, _⟩ => ⟨S2x128, .f32⟩
  | .hbm, ⟨19, _⟩ => ⟨S2x128, .i32⟩
  | .local _ .vmem, ⟨0, _⟩ => ⟨S256x14336, .bf16⟩
  | .local _ .vmem, ⟨1, _⟩ => ⟨S1x14336, .f32⟩
  | .local _ .vmem, ⟨2, _⟩ => ⟨S1x14336, .f32⟩
  | .local _ .vmem, ⟨3, _⟩ => ⟨S14336x128, .f32⟩
  | .local _ .vmem, ⟨4, _⟩ => ⟨S256x14336, .i8⟩
  | .local _ .vmem, ⟨5, _⟩ => ⟨S256x14336, .bf16⟩
  | .local _ .vmem, ⟨6, _⟩ => ⟨S256x1, .f32⟩
  | .local _ .vmem, ⟨7, _⟩ => ⟨S256x1, .i32⟩
  | .local _ .vmem, ⟨8, _⟩ => ⟨S14336x256, .bf16⟩
  | .local _ .vmem, ⟨9, _⟩ => ⟨S14336x256, .bf16⟩
  | .local _ .vmem, ⟨10, _⟩ => ⟨S14336x128, .f32⟩
  | .local _ .vmem, ⟨11, _⟩ => ⟨S256x14336, .bf16⟩
  | .local _ .vmem, ⟨12, _⟩ => ⟨S256x1, .f32⟩
  | .local _ .vmem, ⟨13, _⟩ => ⟨S14336x256, .i8⟩
  | .local _ .vmem, ⟨14, _⟩ => ⟨S14336x256, .i8⟩
  | .local _ .vmem, ⟨15, _⟩ => ⟨S1x256, .f32⟩
  | .local _ .vmem, ⟨16, _⟩ => ⟨S1x256, .f32⟩
  | .local _ .vmem, ⟨17, _⟩ => ⟨S256x256, .bf16⟩
  | .local _ .vmem, ⟨18, _⟩ => ⟨S256x256, .bf16⟩
  | .local _ .vmem, ⟨19, _⟩ => ⟨S256x256, .f32⟩
  | _, _ => ⟨S2x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c112_i32 : BitVec 32 := 112#32
  let v0 : BitVec 32 := Scalar.addi c0_i32 c112_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  v2
def k0_off1 (k0_t1 : Fin k0_t1_loop.trips) : Fin 2 → Nat :=
  let c0 : Index := 0#32
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  let v3 : BitVec 32 := v2
  let v4 : Index := Scalar.indexCast v3
  ![0, v4.toNat]
def k0_off2 (k0_t1 : Fin k0_t1_loop.trips) : Fin 2 → Nat :=
  let c0_5 : Index := 0#32
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  let v3 : BitVec 32 := v2
  let v14 : Index := Scalar.indexCast v3
  ![0, v14.toNat]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v2 : BitVec 32 := Scalar.muli arg8 c128_i32
  let v3 : BitVec 32 := v2
  let v26 : Index := Scalar.indexCast v3
  let c0_8 : Index := 0#32
  ![v26.toNat, 0]
@[reducible] def k0_t2_loop : Scf.Loop 32 :=
  let c0_i32_1 : BitVec 32 := 0#32
  let c8_i32 : BitVec 32 := 8#32
  let v1 : BitVec 32 := Scalar.addi c0_i32_1 c8_i32
  let c1_i32_2 : BitVec 32 := 1#32
  ⟨c0_i32_1, v1, c1_i32_2⟩
def k0_mult2 (k0_t2 : Fin k0_t2_loop.trips) : BitVec 32 :=
  let c0_i32_1 : BitVec 32 := 0#32
  let c1_i32_2 : BitVec 32 := 1#32
  let arg8 : BitVec 32 := Scf.iv c0_i32_1 c1_i32_2 k0_t2
  let c32_i32 : BitVec 32 := 32#32
  let v2 : BitVec 32 := Scalar.muli arg8 c32_i32
  v2
def k0_off4 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c32_i32 : BitVec 32 := 32#32
  let v2 : BitVec 32 := Scalar.muli arg8 c32_i32
  let v3 : BitVec 32 := v2
  let v4 : Index := Scalar.indexCast v3
  let c0 : Index := 0#32
  ![v4.toNat, 0]
def k0_off5 (k0_t2 : Fin k0_t2_loop.trips) : Fin 2 → Nat :=
  let c0_i32_1 : BitVec 32 := 0#32
  let c1_i32_2 : BitVec 32 := 1#32
  let arg8 : BitVec 32 := Scf.iv c0_i32_1 c1_i32_2 k0_t2
  let c32_i32 : BitVec 32 := 32#32
  let v2 : BitVec 32 := Scalar.muli arg8 c32_i32
  let v3 : BitVec 32 := v2
  let v56 : Index := Scalar.indexCast v3
  let c0_17 : Index := 0#32
  ![v56.toNat, 0]
abbrev stage0_0 : Fin 1 → Memref sig .tc .vmem S256x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x14336 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x14336 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x14336 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨1, ![24], ![false]⟩

@[reducible] def k1_t1_loop : Scf.Loop 32 :=
  let c0_i32 : BitVec 32 := 0#32
  let c28_i32 : BitVec 32 := 28#32
  let v1 : BitVec 32 := Scalar.addi c0_i32 c28_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c512_i32 : BitVec 32 := 512#32
  let v26 : BitVec 32 := Scalar.muli arg9 c512_i32
  v26
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c512_i32 : BitVec 32 := 512#32
  let v26 : BitVec 32 := Scalar.muli arg9 c512_i32
  let v27 : BitVec 32 := v26
  let v28 : Index := Scalar.indexCast v27
  let c0_19 : Index := 0#32
  ![v28.toNat, 0]
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let c512_i32 : BitVec 32 := 512#32
  let v26 : BitVec 32 := Scalar.muli arg9 c512_i32
  let v27 : BitVec 32 := v26
  let v31 : Index := Scalar.indexCast v27
  let c0_20 : Index := 0#32
  ![v31.toNat, 0]
@[reducible] def k1_t2_loop : Scf.Loop 32 :=
  let c0_i32_9 : BitVec 32 := 0#32
  let c28_i32_10 : BitVec 32 := 28#32
  let v16 : BitVec 32 := Scalar.addi c0_i32_9 c28_i32_10
  let c1_i32_11 : BitVec 32 := 1#32
  ⟨c0_i32_9, v16, c1_i32_11⟩
def k1_mult2 (k1_t2 : Fin k1_t2_loop.trips) : BitVec 32 :=
  let c0_i32_9 : BitVec 32 := 0#32
  let c1_i32_11 : BitVec 32 := 1#32
  let arg9 : BitVec 32 := Scf.iv c0_i32_9 c1_i32_11 k1_t2
  let c512_i32 : BitVec 32 := 512#32
  let v26 : BitVec 32 := Scalar.muli arg9 c512_i32
  v26
def k1_off3 (k1_t2 : Fin k1_t2_loop.trips) : Fin 2 → Nat :=
  let c0_i32_9 : BitVec 32 := 0#32
  let c1_i32_11 : BitVec 32 := 1#32
  let arg9 : BitVec 32 := Scf.iv c0_i32_9 c1_i32_11 k1_t2
  let c512_i32 : BitVec 32 := 512#32
  let v26 : BitVec 32 := Scalar.muli arg9 c512_i32
  let v27 : BitVec 32 := v26
  let v28 : Index := Scalar.indexCast v27
  let c0_19 : Index := 0#32
  ![v28.toNat, 0]
def k1_off4 (k1_t2 : Fin k1_t2_loop.trips) : Fin 2 → Nat :=
  let c0_i32_9 : BitVec 32 := 0#32
  let c1_i32_11 : BitVec 32 := 1#32
  let arg9 : BitVec 32 := Scf.iv c0_i32_9 c1_i32_11 k1_t2
  let c512_i32 : BitVec 32 := 512#32
  let v26 : BitVec 32 := Scalar.muli arg9 c512_i32
  let v27 : BitVec 32 := v26
  let v31 : Index := Scalar.indexCast v27
  let c0_20 : Index := 0#32
  ![v31.toNat, 0]
def k1_mult3 (k1_t2 : Fin k1_t2_loop.trips) : BitVec 32 :=
  let c0_i32_9 : BitVec 32 := 0#32
  let c1_i32_11 : BitVec 32 := 1#32
  let arg9 : BitVec 32 := Scf.iv c0_i32_9 c1_i32_11 k1_t2
  let c512_i32_21 : BitVec 32 := 512#32
  let v46 : BitVec 32 := Scalar.muli arg9 c512_i32_21
  v46
def k1_off5 (k1_t2 : Fin k1_t2_loop.trips) : Fin 2 → Nat :=
  let c0_25 : Index := 0#32
  let c0_i32_9 : BitVec 32 := 0#32
  let c1_i32_11 : BitVec 32 := 1#32
  let arg9 : BitVec 32 := Scf.iv c0_i32_9 c1_i32_11 k1_t2
  let c512_i32_21 : BitVec 32 := 512#32
  let v46 : BitVec 32 := Scalar.muli arg9 c512_i32_21
  let v47 : BitVec 32 := v46
  let v51 : Index := Scalar.indexCast v47
  ![0, v51.toNat]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S14336x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S14336x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x14336 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S14336x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S2x128x14336 : Shape := ⟨3, ![2, 128, 14336]⟩
abbrev S14336x6144 : Shape := ⟨2, ![14336, 6144]⟩
abbrev S14336 : Shape := ⟨1, ![14336]⟩
abbrev S2x128x6144 : Shape := ⟨3, ![2, 128, 6144]⟩
abbrev S6144 : Shape := ⟨1, ![6144]⟩
abbrev S2x128 : Shape := ⟨2, ![2, 128]⟩
abbrev S14336x1 : Shape := ⟨2, ![14336, 1]⟩
abbrev S1x6144 : Shape := ⟨2, ![1, 6144]⟩
abbrev S1x1x14336 : Shape := ⟨3, ![1, 1, 14336]⟩
abbrev S2x128x1 : Shape := ⟨3, ![2, 128, 1]⟩
abbrev S1x1x6144 : Shape := ⟨3, ![1, 1, 6144]⟩

abbrev nBuf : Space → Nat
  | .hbm => 10
  | .vmem => 10
  | .smem => 0
  | _ => 0

abbrev bufTy : (tb : Table) → Fin (tcTables nBuf tb) → BufTy
  | .hbm, ⟨0, _⟩ => ⟨S2x128x14336, .bf16⟩
  | .hbm, ⟨1, _⟩ => ⟨S14336x6144, .bf16⟩
  | .hbm, ⟨2, _⟩ => ⟨S14336, .f32⟩
  | .hbm, ⟨3, _⟩ => ⟨S2x128x6144, .bf16⟩
  | .hbm, ⟨4, _⟩ => ⟨S14336, .f32⟩
  | .hbm, ⟨5, _⟩ => ⟨S14336x6144, .i8⟩
  | .hbm, ⟨6, _⟩ => ⟨S6144, .f32⟩
  | .hbm, ⟨7, _⟩ => ⟨S2x128x14336, .i8⟩
  | .hbm, ⟨8, _⟩ => ⟨S2x128, .f32⟩
  | .hbm, ⟨9, _⟩ => ⟨S2x128, .i32⟩
  | .local _ .vmem, ⟨0, _⟩ => ⟨S2x128x14336, .bf16⟩
  | .local _ .vmem, ⟨1, _⟩ => ⟨S14336x6144, .bf16⟩
  | .local _ .vmem, ⟨2, _⟩ => ⟨S14336, .f32⟩
  | .local _ .vmem, ⟨3, _⟩ => ⟨S2x128x6144, .bf16⟩
  | .local _ .vmem, ⟨4, _⟩ => ⟨S14336, .f32⟩
  | .local _ .vmem, ⟨5, _⟩ => ⟨S14336x6144, .i8⟩
  | .local _ .vmem, ⟨6, _⟩ => ⟨S6144, .f32⟩
  | .local _ .vmem, ⟨7, _⟩ => ⟨S2x128x14336, .i8⟩
  | .local _ .vmem, ⟨8, _⟩ => ⟨S2x128, .f32⟩
  | .local _ .vmem, ⟨9, _⟩ => ⟨S2x128, .i32⟩
  | _, _ => ⟨S2x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x6144 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x14336 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
/- The frame certificate of the program `Kernel`: the generated module `Gen/Kernel/Frame.lean` with declarations
   added before its regions (from `writes_eq_junk_of_cover` to `loopExit_k1_t2`). They state what two of its loops
   leave behind without naming what a buffer held before them; with that each
   body's run finds the pieces it writes. Everything else stands as it was generated. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A whole buffer after writes that cover its shape holds those writes over junk. -/
theorem writes_eq_junk_of_cover {sp : Space} {s : Shape} {e : EltTy} {mm : Memref sig .tc sp s e} (hw : mm.IsWhole)
    (f : mm.view.ty.Contents (Elt F)) (L : List (View.Piece (Elt F) s e)) (hc : ∀ y : s.Idx, ∃ p ∈ L, y ∈ p.1.set) :
    mm.view.writes (Elt F) f L = mm.view.writes (Elt F) mm.view.junk L := by
  obtain ⟨b, rfl, rfl, rfl, h⟩ := hw; cases h
  funext y
  exact View.read_writes_apply_eq (View.whole b) f (View.whole b) (View.whole b).junk y L (hc y)

/-- The first loop of the activation kernel stores every element of the factors' buffer. -/
theorem cover_k0_t1_2 (𝒱 : Variants) (c : Dev nD) (bd : Option 𝒱.V) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole) (X_arg0 : BufTy.Contents (Elt F) arg0.view.ty) (X_arg1 : BufTy.Contents (Elt F) arg1.view.ty) (y : S1x14336.Idx) :
    ∃ pc ∈ (pb_k0_t1 (F := F) 𝒱 c bd arg0 harg0 arg1 harg1 arg2 harg2 arg3 harg3 arg4 harg4 arg5 harg5 arg6 harg6 arg7 harg7 X_arg0 X_arg1 k0_t1_loop.trips).1, y ∈ pc.1.set :=
  View.cover_of_tiledL (pb_k0_t1 (F := F) 𝒱 c bd arg0 harg0 arg1 harg1 arg2 harg2 arg3 harg3 arg4 harg4 arg5 harg5 arg6 harg6 arg7 harg7 X_arg0 X_arg1 k0_t1_loop.trips).1 S1x128.size (by sl_kernel_rfl) y

set_option warn.classDefReducibility false in
/-- What the first loop of the activation kernel hands on: the invariant at the trip count with the factors' buffer
    stated over junk, so that what the second loop reads there names nothing the buffer held before. -/
instance loopExit_k0_t1 (𝒱 : Variants) (c : Dev nD) (bd : Option 𝒱.V) (E : Set ℕ) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole) (X_arg0 : BufTy.Contents (Elt F) arg0.view.ty) (X_arg1 : BufTy.Contents (Elt F) arg1.view.ty) (G_arg2 : BufTy.Contents (Elt F) arg2.view.ty) (G_arg3 : BufTy.Contents (Elt F) arg3.view.ty) :
    LoopExit (loopInv_k0_t1 (F := F) 𝒱 c bd E arg0 harg0 arg1 harg1 arg2 harg2 arg3 harg3 arg4 harg4 arg5 harg5 arg6 harg6 arg7 harg7 X_arg0 X_arg1 G_arg2 G_arg3) where
  post _ := iprop((arg0.view.loc (c : Thread nD τ) ↦[arg0.view.set]{fullShare} X_arg0) ∗ (arg1.view.loc (c : Thread nD τ) ↦[arg1.view.set]{fullShare} X_arg1) ∗ (∃ f, (arg2.view.loc (c : Thread nD τ) ↦[arg2.view.set]{fullShare} f) ∗ ⌜f = arg2.view.writes (Elt F) arg2.view.junk (pb_k0_t1 (F := F) 𝒱 c bd arg0 harg0 arg1 harg1 arg2 harg2 arg3 harg3 arg4 harg4 arg5 harg5 arg6 harg6 arg7 harg7 X_arg0 X_arg1 k0_t1_loop.trips).1⌝) ∗ (∃ f, (arg3.view.loc (c : Thread nD τ) ↦[arg3.view.set]{fullShare} f) ∗ ⌜f = arg3.view.writes (Elt F) G_arg3 (pb_k0_t1 (F := F) 𝒱 c bd arg0 harg0 arg1 harg1 arg2 harg2 arg3 harg3 arg4 harg4 arg5 harg5 arg6 harg6 arg7 harg7 X_arg0 X_arg1 k0_t1_loop.trips).2⌝))
  exit acc := by
    have e := writes_eq_junk_of_cover harg2 G_arg2 _ (cover_k0_t1_2 (F := F) 𝒱 c bd arg0 harg0 arg1 harg1 arg2 harg2 arg3 harg3 arg4 harg4 arg5 harg5 arg6 harg6 arg7 harg7 X_arg0 X_arg1)
    have h : inv_k0_t1 (F := F) 𝒱 c bd arg0 harg0 arg1 harg1 arg2 harg2 arg3 harg3 arg4 harg4 arg5 harg5 arg6 harg6 arg7 harg7 X_arg0 X_arg1 G_arg2 G_arg3 k0_t1_loop.trips acc = iprop((arg0.view.loc (c : Thread nD τ) ↦[arg0.view.set]{fullShare} X_arg0) ∗ (arg1.view.loc (c : Thread nD τ) ↦[arg1.view.set]{fullShare} X_arg1) ∗ (∃ f, (arg2.view.loc (c : Thread nD τ) ↦[arg2.view.set]{fullShare} f) ∗ ⌜f = arg2.view.writes (Elt F) arg2.view.junk (pb_k0_t1 (F := F) 𝒱 c bd arg0 harg0 arg1 harg1 arg2 harg2 arg3 harg3 arg4 harg4 arg5 harg5 arg6 harg6 arg7 harg7 X_arg0 X_arg1 k0_t1_loop.trips).1⌝) ∗ (∃ f, (arg3.view.loc (c : Thread nD τ) ↦[arg3.view.set]{fullShare} f) ∗ ⌜f = arg3.view.writes (Elt F) G_arg3 (pb_k0_t1 (F := F) 𝒱 c bd arg0 harg0 arg1 harg1 arg2 harg2 arg3 harg3 arg4 harg4 arg5 harg5 arg6 harg6 arg7 harg7 X_arg0 X_arg1 k0_t1_loop.trips).2⌝)) := by
      unfold inv_k0_t1
      rw [e]
    exact h ▸ BIBase.Entails.rfl

/-- One trip of the second loop of the weight kernel leaves pieces that do not depend on what the codes' buffer held
    before it: the trip reads back only the accumulator. -/
theorem tripL_k1_t2_codes (𝒱 : Variants) (c : Dev nD) (bd : Option 𝒱.V) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (v2 : FVec F S8x256 .f32) (X_arg1 : BufTy.Contents (Elt F) arg1.view.ty) (X_arg2 : BufTy.Contents (Elt F) arg2.view.ty) (X_arg3 : BufTy.Contents (Elt F) arg3.view.ty) (k : Fin k1_t2_loop.trips) (f5 f5' : BufTy.Contents (Elt F) arg5.view.ty) (f8 : BufTy.Contents (Elt F) arg8.view.ty) :
    tripL_k1_t2 (F := F) 𝒱 c bd i arg1 harg1 arg2 harg2 arg3 harg3 arg4 harg4 arg5 harg5 arg6 harg6 arg7 harg7 arg8 harg8 v2 X_arg1 X_arg2 X_arg3 k f5 f8 = tripL_k1_t2 (F := F) 𝒱 c bd i arg1 harg1 arg2 harg2 arg3 harg3 arg4 harg4 arg5 harg5 arg6 harg6 arg7 harg7 arg8 harg8 v2 X_arg1 X_arg2 X_arg3 k f5' f8 := by
  unfold tripL_k1_t2 trip_k1_t2; rfl

/-- The pieces of the first `k` trips do not depend on what the codes' buffer held at the loop's entry. -/
theorem pb_k1_t2_codes (𝒱 : Variants) (c : Dev nD) (bd : Option 𝒱.V) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (v2 : FVec F S8x256 .f32) (X_arg1 : BufTy.Contents (Elt F) arg1.view.ty) (X_arg2 : BufTy.Contents (Elt F) arg2.view.ty) (X_arg3 : BufTy.Contents (Elt F) arg3.view.ty) (G5 G5' : BufTy.Contents (Elt F) arg5.view.ty) (G8 : BufTy.Contents (Elt F) arg8.view.ty) (k : ℕ) (hk : k ≤ k1_t2_loop.trips) :
    pb_k1_t2 (F := F) 𝒱 c bd i arg1 harg1 arg2 harg2 arg3 harg3 arg4 harg4 arg5 harg5 arg6 harg6 arg7 harg7 arg8 harg8 v2 X_arg1 X_arg2 X_arg3 G5 G8 k = pb_k1_t2 (F := F) 𝒱 c bd i arg1 harg1 arg2 harg2 arg3 harg3 arg4 harg4 arg5 harg5 arg6 harg6 arg7 harg7 arg8 harg8 v2 X_arg1 X_arg2 X_arg3 G5' G8 k := by
  induction k with
  | zero => rfl
  | succ k ih =>
    have h := pb_k1_t2_succ (F := F) 𝒱 c bd i arg1 harg1 arg2 harg2 arg3 harg3 arg4 harg4 arg5 harg5 arg6 harg6 arg7 harg7 arg8 harg8 v2 X_arg1 X_arg2 X_arg3 G5 G8 ⟨k, hk⟩
    have h' := pb_k1_t2_succ (F := F) 𝒱 c bd i arg1 harg1 arg2 harg2 arg3 harg3 arg4 harg4 arg5 harg5 arg6 harg6 arg7 harg7 arg8 harg8 v2 X_arg1 X_arg2 X_arg3 G5' G8 ⟨k, hk⟩
    dsimp only at h h'
    have e := tripL_k1_t2_codes (F := F) 𝒱 c bd i arg1 harg1 arg2 harg2 arg3 harg3 arg4 harg4 arg5 harg5 arg6 harg6 arg7 harg7 arg8 harg8 v2 X_arg1 X_arg2 X_arg3 ⟨k, hk⟩ (arg5.view.writes (Elt F) G5 (pb_k1_t2 (F := F) 𝒱 c bd i arg1 harg1 arg2 harg2 arg3 harg3 arg4 harg4 arg5 harg5 arg6 harg6 arg7 harg7 arg8 harg8 v2 X_arg1 X_arg2 X_arg3 G5' G8 k).1) (arg5.view.writes (Elt F) G5' (pb_k1_t2 (F := F) 𝒱 c bd i arg1 harg1 arg2 harg2 arg3 harg3 arg4 harg4 arg5 harg5 arg6 harg6 arg7 harg7 arg8 harg8 v2 X_arg1 X_arg2 X_arg3 G5' G8 k).1) (arg8.view.writes (Elt F) G8 (pb_k1_t2 (F := F) 𝒱 c bd i arg1 harg1 arg2 harg2 arg3 harg3 arg4 harg4 arg5 harg5 arg6 harg6 arg7 harg7 arg8 harg8 v2 X_arg1 X_arg2 X_arg3 G5' G8 k).2)
    obtain ⟨e1, e2⟩ := Prod.mk.inj e
    rw [h, h', ih (Nat.le_of_succ_le hk), e1, e2]

set_option warn.classDefReducibility false in
/-- What the second loop of the weight kernel hands on: the invariant at the trip count with its pieces stated over junk
    in the codes' buffer, so that they name nothing the buffer held before. -/
instance loopExit_k1_t2 (𝒱 : Variants) (c : Dev nD) (bd : Option 𝒱.V) (E : Set ℕ) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (v2 : FVec F S8x256 .f32) (X_arg1 : BufTy.Contents (Elt F) arg1.view.ty) (X_arg2 : BufTy.Contents (Elt F) arg2.view.ty) (X_arg3 : BufTy.Contents (Elt F) arg3.view.ty) (G_arg5 : BufTy.Contents (Elt F) arg5.view.ty) (G_arg8 : BufTy.Contents (Elt F) arg8.view.ty) :
    LoopExit (loopInv_k1_t2 (F := F) 𝒱 c bd E i arg1 harg1 arg2 harg2 arg3 harg3 arg4 harg4 arg5 harg5 arg6 harg6 arg7 harg7 arg8 harg8 v2 X_arg1 X_arg2 X_arg3 G_arg5 G_arg8) where
  post _ := iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).1⌝) ∗ (∃ f, (arg8.view.loc (c : Thread nD τ) ↦[arg8.view.set]{fullShare} f) ∗ ⌜f = arg8.view.writes (Elt F) G_arg8 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).2⌝))
  exit acc := by
    have e := pb_k1_t2_codes (F := F) 𝒱 c bd i arg1 harg1 arg2 harg2 arg3 harg3 arg4 harg4 arg5 harg5 arg6 harg6 arg7 harg7 arg8 harg8 v2 X_arg1 X_arg2 X_arg3 G_arg5 arg5.view.junk G_arg8 k1_t2_loop.trips le_rfl
    have h : inv_k1_t2 (F := F) 𝒱 c bd i arg1 harg1 arg2 harg2 arg3 harg3 arg4 harg4 arg5 harg5 arg6 harg6 arg7 harg7 arg8 harg8 v2 X_arg1 X_arg2 X_arg3 G_arg5 G_arg8 k1_t2_loop.trips acc = iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).1⌝) ∗ (∃ f, (arg8.view.loc (c : Thread nD τ) ↦[arg8.view.set]{fullShare} f) ∗ ⌜f = arg8.view.writes (Elt F) G_arg8 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).2⌝)) := by
      unfold inv_k1_t2
      rw [e]
    exact h ▸ BIBase.Entails.rfl

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_act_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x14336 .f32 := (Memref.whole cc0_stg2_0 : Memref sig .tc .vmem S1x14336 .f32).view
/-- One staging buffer of output window 3, through which its contents are stated (`View.read_writes_of_cover`: the
    choice does not matter). -/
abbrev VO0_3 : View sig .tc .vmem S14336x128 .f32 := (Memref.whole cc0_stg3_0 : Memref sig .tc .vmem S14336x128 .f32).view
/-- One staging buffer of output window 4, through which its contents are stated (`View.read_writes_of_cover`: the
    choice does not matter). -/
abbrev VO0_4 : View sig .tc .vmem S256x14336 .i8 := (Memref.whole cc0_stg4_0 : Memref sig .tc .vmem S256x14336 .i8).view
/-- One staging buffer of output window 5, through which its contents are stated (`View.read_writes_of_cover`: the
    choice does not matter). -/
abbrev VO0_5 : View sig .tc .vmem S256x14336 .bf16 := (Memref.whole cc0_stg5_0 : Memref sig .tc .vmem S256x14336 .bf16).view
/-- One staging buffer of output window 6, through which its contents are stated (`View.read_writes_of_cover`: the
    choice does not matter). -/
abbrev VO0_6 : View sig .tc .vmem S256x1 .f32 := (Memref.whole cc0_stg6_0 : Memref sig .tc .vmem S256x1 .f32).view
/-- One staging buffer of output window 7, through which its contents are stated (`View.read_writes_of_cover`: the
    choice does not matter). -/
abbrev VO0_7 : View sig .tc .vmem S256x1 .i32 := (Memref.whole cc0_stg7_0 : Memref sig .tc .vmem S256x1 .i32).view
/-- Each window's current staging memref at point `t`, spelled as the pipeline passes it (`bodyAt0`), and its wholeness. -/
abbrev ms0_0 (t : Fin cfg0.N) : Memref sig .tc .vmem S256x14336 .bf16 := win0_0.stage (cfg0.slots t 0)
abbrev hs0_0 (t : Fin cfg0.N) : (ms0_0 t).IsWhole := hstage0_0 0
abbrev ms0_1 (t : Fin cfg0.N) : Memref sig .tc .vmem S1x14336 .f32 := win0_1.stage (cfg0.slots t 1)
abbrev hs0_1 (t : Fin cfg0.N) : (ms0_1 t).IsWhole := hstage0_1 0
abbrev ms0_2 (t : Fin cfg0.N) : Memref sig .tc .vmem S1x14336 .f32 := win0_2.stage (cfg0.slots t 2)
abbrev hs0_2 (t : Fin cfg0.N) : (ms0_2 t).IsWhole := hstage0_2 0
abbrev ms0_3 (t : Fin cfg0.N) : Memref sig .tc .vmem S14336x128 .f32 := win0_3.stage (cfg0.slots t 3)
abbrev hs0_3 (t : Fin cfg0.N) : (ms0_3 t).IsWhole := hstage0_3 0
abbrev ms0_4 (t : Fin cfg0.N) : Memref sig .tc .vmem S256x14336 .i8 := win0_4.stage (cfg0.slots t 4)
abbrev hs0_4 (t : Fin cfg0.N) : (ms0_4 t).IsWhole := hstage0_4 0
abbrev ms0_5 (t : Fin cfg0.N) : Memref sig .tc .vmem S256x14336 .bf16 := win0_5.stage (cfg0.slots t 5)
abbrev hs0_5 (t : Fin cfg0.N) : (ms0_5 t).IsWhole := hstage0_5 0
abbrev ms0_6 (t : Fin cfg0.N) : Memref sig .tc .vmem S256x1 .f32 := win0_6.stage (cfg0.slots t 6)
abbrev hs0_6 (t : Fin cfg0.N) : (ms0_6 t).IsWhole := hstage0_6 0
abbrev ms0_7 (t : Fin cfg0.N) : Memref sig .tc .vmem S256x1 .i32 := win0_7.stage (cfg0.slots t 7)
abbrev hs0_7 (t : Fin cfg0.N) : (ms0_7 t).IsWhole := hstage0_7 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) :
    Σ' (L2 : List (View.Piece (Elt F) S1x14336 .f32)), Σ' (L3 : List (View.Piece (Elt F) S14336x128 .f32)), Σ' (L4 : List (View.Piece (Elt F) S256x14336 .i8)), Σ' (L5 : List (View.Piece (Elt F) S256x14336 .bf16)), Σ' (L6 : List (View.Piece (Elt F) S256x1 .f32)), { L7 : List (View.Piece (Elt F) S256x1 .i32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0_act_quant arg0 harg0 arg1 harg1 arg2 harg2 arg3 harg3 arg4 harg4 arg5 harg5 arg6 harg6 arg7 harg7) K } := by
  refine ⟨?_, ?_, ?_, ?_, ?_, ?_, fun E K => ?run⟩
  case run =>
    simp only [cc0_act_quant_eq_skeleton]; unfold cc0_act_quant_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

/-- The run's pieces for output 2 tile its block (112 stores of `S1x128`, checked by the kernel's evaluation: Lib/Ring.lean `Piece.tiledL`, linear in the pieces, through a loop's `@[irreducible]` trip theorem too), so they cover it. -/
theorem cover0_A_2 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S1x14336.Idx) :
    ∃ pc ∈ (kernelRun0_A c arg0 harg0 arg1 harg1 arg2 harg2 arg3 harg3 arg4 harg4 arg5 harg5 arg6 harg6 arg7 harg7 x0 x1).1, y ∈ pc.1.set :=
  View.cover_of_tiledL (kernelRun0_A c arg0 harg0 arg1 harg1 arg2 harg2 arg3 harg3 arg4 harg4 arg5 harg5 arg6 harg6 arg7 harg7 x0 x1).1 S1x128.size (by sl_kernel_rfl) y

/-- What the run leaves in output 2's staging buffer: its pieces read back over junk. -/
def out0_A_2 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S1x14336 .f32 :=
  VO0_2.read (Elt F) (VO0_2.writes (Elt F) VO0_2.junk (kernelRun0_A c arg0 harg0 arg1 harg1 arg2 harg2 arg3 harg3 arg4 harg4 arg5 harg5 arg6 harg6 arg7 harg7 x0 x1).1)

/-- The run's pieces for output 3 tile its block (112 stores of `S128x128`, checked by the kernel's evaluation: Lib/Ring.lean `Piece.tiledL`, linear in the pieces, through a loop's `@[irreducible]` trip theorem too), so they cover it. -/
theorem cover0_A_3 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S14336x128.Idx) :
    ∃ pc ∈ (kernelRun0_A c arg0 harg0 arg1 harg1 arg2 harg2 arg3 harg3 arg4 harg4 arg5 harg5 arg6 harg6 arg7 harg7 x0 x1).2.1, y ∈ pc.1.set :=
  View.cover_of_tiledL (kernelRun0_A c arg0 harg0 arg1 harg1 arg2 harg2 arg3 harg3 arg4 harg4 arg5 harg5 arg6 harg6 arg7 harg7 x0 x1).2.1 S128x128.size (by sl_kernel_rfl) y

/-- What the run leaves in output 3's staging buffer: its pieces read back over junk. -/
def out0_A_3 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S14336x128 .f32 :=
  VO0_3.read (Elt F) (VO0_3.writes (Elt F) VO0_3.junk (kernelRun0_A c arg0 harg0 arg1 harg1 arg2 harg2 arg3 harg3 arg4 harg4 arg5 harg5 arg6 harg6 arg7 harg7 x0 x1).2.1)

/-- The run's pieces for output 4 tile its block (8 stores of `S32x14336`, checked by the kernel's evaluation: Lib/Ring.lean `Piece.tiledL`, linear in the pieces, through a loop's `@[irreducible]` trip theorem too), so they cover it. -/
theorem cover0_A_4 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x14336.Idx) :
    ∃ pc ∈ (kernelRun0_A c arg0 harg0 arg1 harg1 arg2 harg2 arg3 harg3 arg4 harg4 arg5 harg5 arg6 harg6 arg7 harg7 x0 x1).2.2.1, y ∈ pc.1.set :=
  View.cover_of_tiledL (kernelRun0_A c arg0 harg0 arg1 harg1 arg2 harg2 arg3 harg3 arg4 harg4 arg5 harg5 arg6 harg6 arg7 harg7 x0 x1).2.2.1 S32x14336.size (by sl_kernel_rfl) y

/-- What the run leaves in output 4's staging buffer: its pieces read back over junk. -/
def out0_A_4 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x14336 .i8 :=
  VO0_4.read (Elt F) (VO0_4.writes (Elt F) VO0_4.junk (kernelRun0_A c arg0 harg0 arg1 harg1 arg2 harg2 arg3 harg3 arg4 harg4 arg5 harg5 arg6 harg6 arg7 harg7 x0 x1).2.2.1)

/-- The run's pieces for output 5 tile its block (8 stores of `S32x14336`, checked by the kernel's evaluation: Lib/Ring.lean `Piece.tiledL`, linear in the pieces, through a loop's `@[irreducible]` trip theorem too), so they cover it. -/
theorem cover0_A_5 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x14336.Idx) :
    ∃ pc ∈ (kernelRun0_A c arg0 harg0 arg1 harg1 arg2 harg2 arg3 harg3 arg4 harg4 arg5 harg5 arg6 harg6 arg7 harg7 x0 x1).2.2.2.1, y ∈ pc.1.set :=
  View.cover_of_tiledL (kernelRun0_A c arg0 harg0 arg1 harg1 arg2 harg2 arg3 harg3 arg4 harg4 arg5 harg5 arg6 harg6 arg7 harg7 x0 x1).2.2.2.1 S32x14336.size (by sl_kernel_rfl) y

/-- What the run leaves in output 5's staging buffer: its pieces read back over junk. -/
def out0_A_5 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x14336 .bf16 :=
  VO0_5.read (Elt F) (VO0_5.writes (Elt F) VO0_5.junk (kernelRun0_A c arg0 harg0 arg1 harg1 arg2 harg2 arg3 harg3 arg4 harg4 arg5 harg5 arg6 harg6 arg7 harg7 x0 x1).2.2.2.1)

/-- The run's pieces for output 6 tile its block (8 stores of `S32x1`, checked by the kernel's evaluation: Lib/Ring.lean `Piece.tiledL`, linear in the pieces, through a loop's `@[irreducible]` trip theorem too), so they cover it. -/
theorem cover0_A_6 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x1.Idx) :
    ∃ pc ∈ (kernelRun0_A c arg0 harg0 arg1 harg1 arg2 harg2 arg3 harg3 arg4 harg4 arg5 harg5 arg6 harg6 arg7 harg7 x0 x1).2.2.2.2.1, y ∈ pc.1.set :=
  View.cover_of_tiledL (kernelRun0_A c arg0 harg0 arg1 harg1 arg2 harg2 arg3 harg3 arg4 harg4 arg5 harg5 arg6 harg6 arg7 harg7 x0 x1).2.2.2.2.1 S32x1.size (by sl_kernel_rfl) y

/-- What the run leaves in output 6's staging buffer: its pieces read back over junk. -/
def out0_A_6 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x1 .f32 :=
  VO0_6.read (Elt F) (VO0_6.writes (Elt F) VO0_6.junk (kernelRun0_A c arg0 harg0 arg1 harg1 arg2 harg2 arg3 harg3 arg4 harg4 arg5 harg5 arg6 harg6 arg7 harg7 x0 x1).2.2.2.2.1)

/-- The run's pieces for output 7 tile its block (8 stores of `S32x1`, checked by the kernel's evaluation: Lib/Ring.lean `Piece.tiledL`, linear in the pieces, through a loop's `@[irreducible]` trip theorem too), so they cover it. -/
theorem cover0_A_7 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x1.Idx) :
    ∃ pc ∈ (kernelRun0_A c arg0 harg0 arg1 harg1 arg2 harg2 arg3 harg3 arg4 harg4 arg5 harg5 arg6 harg6 arg7 harg7 x0 x1).2.2.2.2.2.1, y ∈ pc.1.set :=
  View.cover_of_tiledL (kernelRun0_A c arg0 harg0 arg1 harg1 arg2 harg2 arg3 harg3 arg4 harg4 arg5 harg5 arg6 harg6 arg7 harg7 x0 x1).2.2.2.2.2.1 S32x1.size (by sl_kernel_rfl) y

/-- What the run leaves in output 7's staging buffer: its pieces read back over junk. -/
def out0_A_7 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x1 .i32 :=
  VO0_7.read (Elt F) (VO0_7.writes (Elt F) VO0_7.junk (kernelRun0_A c arg0 harg0 arg1 harg1 arg2 harg2 arg3 harg3 arg4 harg4 arg5 harg5 arg6 harg6 arg7 harg7 x0 x1).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x14336 .f32 × Vec F S14336x128 .f32 × Vec F S256x14336 .i8 × Vec F S256x14336 .bf16 × Vec F S256x1 .f32 × Vec F S256x1 .i32 :=
  (out0_A_2 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_3 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2.1
    | ⟨5, _⟩ => (outsAt0 V c t).2.2.2.1
    | ⟨6, _⟩ => (outsAt0 V c t).2.2.2.2.1
    | ⟨7, _⟩ => (outsAt0 V c t).2.2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2.1 := by dsimp only [dat0]
theorem after0_5 (c : Dev nD) (t : Fin cfg0.N) : (dat0 V c).after 5 t = (outsAt0 V c t).2.2.2.1 := by dsimp only [dat0]
theorem after0_6 (c : Dev nD) (t : Fin cfg0.N) : (dat0 V c).after 6 t = (outsAt0 V c t).2.2.2.2.1 := by dsimp only [dat0]
theorem after0_7 (c : Dev nD) (t : Fin cfg0.N) : (dat0 V c).after 7 t = (outsAt0 V c t).2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outsAt0
  unfold out0_A_2 out0_A_3 out0_A_4 out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ (iblk0 V c 0 t) (iblk0 V c 1 t)).2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, ⟨%e2, H2⟩, ⟨%e3, H3⟩, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_weight_quant_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S14336x256 .i8 := (Memref.whole cc1_stg4_0 : Memref sig .tc .vmem S14336x256 .i8).view
/-- One staging buffer of output window 5, through which its contents are stated (`View.read_writes_of_cover`: the
    choice does not matter). -/
abbrev VO1_5 : View sig .tc .vmem S1x256 .f32 := (Memref.whole cc1_stg5_0 : Memref sig .tc .vmem S1x256 .f32).view
/-- One staging buffer of output window 6, through which its contents are stated (`View.read_writes_of_cover`: the
    choice does not matter). -/
abbrev VO1_6 : View sig .tc .vmem S256x256 .bf16 := (Memref.whole cc1_stg6_0 : Memref sig .tc .vmem S256x256 .bf16).view
/-- Each window's current staging memref at point `t`, spelled as the pipeline passes it (`bodyAt1`), and its wholeness. -/
abbrev ms1_0 (t : Fin cfg1.N) : Memref sig .tc .vmem S14336x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S14336x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x14336 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S14336x256 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S256x256 .f32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) :
    Σ' (L4 : List (View.Piece (Elt F) S14336x256 .i8)), Σ' (L5 : List (View.Piece (Elt F) S1x256 .f32)), { L6 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc1_weight_quant_matmul i arg1 harg1 arg2 harg2 arg3 harg3 arg4 harg4 arg5 harg5 arg6 harg6 arg7 harg7 arg8 harg8) K } := by
  refine ⟨?_, ?_, ?_, fun E K => ?run⟩
  case run =>
    simp only [cc1_weight_quant_matmul_eq_skeleton]; unfold cc1_weight_quant_matmul_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _, _; isplitr; swap; · iexact HS0
    ipureintro; rfl

/-- The run's pieces for output 4 tile its block (28 stores of `S512x256`, checked by the kernel's evaluation: Lib/Ring.lean `Piece.tiledL`, linear in the pieces, through a loop's `@[irreducible]` trip theorem too), so they cover it. -/
theorem cover1_A_4 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) (y : S14336x256.Idx) :
    ∃ pc ∈ (kernelRun1_A c i arg1 harg1 arg2 harg2 arg3 harg3 arg4 harg4 arg5 harg5 arg6 harg6 arg7 harg7 arg8 harg8 x0 x1 x2 x3).1, y ∈ pc.1.set :=
  View.cover_of_tiledL (kernelRun1_A c i arg1 harg1 arg2 harg2 arg3 harg3 arg4 harg4 arg5 harg5 arg6 harg6 arg7 harg7 arg8 harg8 x0 x1 x2 x3).1 S512x256.size (by sl_kernel_rfl) y

/-- What the run leaves in output 4's staging buffer: its pieces read back over junk. -/
def out1_A_4 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) : Vec F S14336x256 .i8 :=
  VO1_4.read (Elt F) (VO1_4.writes (Elt F) VO1_4.junk (kernelRun1_A c i arg1 harg1 arg2 harg2 arg3 harg3 arg4 harg4 arg5 harg5 arg6 harg6 arg7 harg7 arg8 harg8 x0 x1 x2 x3).1)

/-- The run's pieces for output 5 tile its block (1 store of `S1x256`, checked by the kernel's evaluation: Lib/Ring.lean `Piece.tiledL`, linear in the pieces, through a loop's `@[irreducible]` trip theorem too), so they cover it. -/
theorem cover1_A_5 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) (y : S1x256.Idx) :
    ∃ pc ∈ (kernelRun1_A c i arg1 harg1 arg2 harg2 arg3 harg3 arg4 harg4 arg5 harg5 arg6 harg6 arg7 harg7 arg8 harg8 x0 x1 x2 x3).2.1, y ∈ pc.1.set :=
  View.cover_of_tiledL (kernelRun1_A c i arg1 harg1 arg2 harg2 arg3 harg3 arg4 harg4 arg5 harg5 arg6 harg6 arg7 harg7 arg8 harg8 x0 x1 x2 x3).2.1 S1x256.size (by sl_kernel_rfl) y

/-- What the run leaves in output 5's staging buffer: its pieces read back over junk. -/
def out1_A_5 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) : Vec F S1x256 .f32 :=
  VO1_5.read (Elt F) (VO1_5.writes (Elt F) VO1_5.junk (kernelRun1_A c i arg1 harg1 arg2 harg2 arg3 harg3 arg4 harg4 arg5 harg5 arg6 harg6 arg7 harg7 arg8 harg8 x0 x1 x2 x3).2.1)

/-- The run's pieces for output 6 tile its block (1 store of `S256x256`, checked by the kernel's evaluation: Lib/Ring.lean `Piece.tiledL`, linear in the pieces, through a loop's `@[irreducible]` trip theorem too), so they cover it. -/
theorem cover1_A_6 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) (y : S256x256.Idx) :
    ∃ pc ∈ (kernelRun1_A c i arg1 harg1 arg2 harg2 arg3 harg3 arg4 harg4 arg5 harg5 arg6 harg6 arg7 harg7 arg8 harg8 x0 x1 x2 x3).2.2.1, y ∈ pc.1.set :=
  View.cover_of_tiledL (kernelRun1_A c i arg1 harg1 arg2 harg2 arg3 harg3 arg4 harg4 arg5 harg5 arg6 harg6 arg7 harg7 arg8 harg8 x0 x1 x2 x3).2.2.1 S256x256.size (by sl_kernel_rfl) y

/-- What the run leaves in output 6's staging buffer: its pieces read back over junk. -/
def out1_A_6 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) : Vec F S256x256 .bf16 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3).2.2.1)

/-! ## What the outputs hold after each point -/

/-- What the outputs' staging buffers hold after the body at point `t` (as a tuple, in window order): the run's contents at
    the point's memrefs and input blocks. -/
def outsAt1 (c : Dev nD) (t : Fin cfg1.N) : Vec F S14336x256 .i8 × Vec F S1x256 .f32 × Vec F S256x256 .bf16 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  unfold out1_A_4 out1_A_5 out1_A_6; (try dsimp only)
  iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ (iblk1 V c 0 t) (iblk1 V c 1 t) (iblk1 V c 2 t) (iblk1 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, ⟨%e4, H4⟩, ⟨%e5, H5⟩, ⟨%e6, H6⟩, HS0⟩
  isplitl [HR0 HR1 HR2 HR3 HR4 HR5 HR6 HR7 HS0 Hg]
  · isplitl [HR0 HR1 HR2 HR3 HR4 HR5 HR6 HR7 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HS0
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.Kernel.Gen

end
-- ==== Proof.KernelIdealFrame.lean ====
/- The frame certificate of the program `KernelIdeal`: the generated module `Gen/KernelIdeal/Frame.lean` with declarations
   added before its regions (from `writes_eq_junk_of_cover` to `loopExit_k1_t2`). They state what two of its loops
   leave behind without naming what a buffer held before them; with that each
   body's run finds the pieces it writes. Everything else stands as it was generated. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A whole buffer after writes that cover its shape holds those writes over junk. -/
theorem writes_eq_junk_of_cover {sp : Space} {s : Shape} {e : EltTy} {mm : Memref sig .tc sp s e} (hw : mm.IsWhole)
    (f : mm.view.ty.Contents (Elt F)) (L : List (View.Piece (Elt F) s e)) (hc : ∀ y : s.Idx, ∃ p ∈ L, y ∈ p.1.set) :
    mm.view.writes (Elt F) f L = mm.view.writes (Elt F) mm.view.junk L := by
  obtain ⟨b, rfl, rfl, rfl, h⟩ := hw; cases h
  funext y
  exact View.read_writes_apply_eq (View.whole b) f (View.whole b) (View.whole b).junk y L (hc y)

/-- The first loop of the activation kernel stores every element of the factors' buffer. -/
theorem cover_k0_t1_2 (𝒱 : Variants) (c : Dev nD) (bd : Option 𝒱.V) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole) (X_arg0 : BufTy.Contents (Elt F) arg0.view.ty) (X_arg1 : BufTy.Contents (Elt F) arg1.view.ty) (y : S1x14336.Idx) :
    ∃ pc ∈ (pb_k0_t1 (F := F) 𝒱 c bd arg0 harg0 arg1 harg1 arg2 harg2 arg3 harg3 arg4 harg4 arg5 harg5 arg6 harg6 arg7 harg7 X_arg0 X_arg1 k0_t1_loop.trips).1, y ∈ pc.1.set :=
  View.cover_of_tiledL (pb_k0_t1 (F := F) 𝒱 c bd arg0 harg0 arg1 harg1 arg2 harg2 arg3 harg3 arg4 harg4 arg5 harg5 arg6 harg6 arg7 harg7 X_arg0 X_arg1 k0_t1_loop.trips).1 S1x128.size (by sl_kernel_rfl) y

set_option warn.classDefReducibility false in
/-- What the first loop of the activation kernel hands on: the invariant at the trip count with the factors' buffer
    stated over junk, so that what the second loop reads there names nothing the buffer held before. -/
instance loopExit_k0_t1 (𝒱 : Variants) (c : Dev nD) (bd : Option 𝒱.V) (E : Set ℕ) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole) (X_arg0 : BufTy.Contents (Elt F) arg0.view.ty) (X_arg1 : BufTy.Contents (Elt F) arg1.view.ty) (G_arg2 : BufTy.Contents (Elt F) arg2.view.ty) (G_arg3 : BufTy.Contents (Elt F) arg3.view.ty) :
    LoopExit (loopInv_k0_t1 (F := F) 𝒱 c bd E arg0 harg0 arg1 harg1 arg2 harg2 arg3 harg3 arg4 harg4 arg5 harg5 arg6 harg6 arg7 harg7 X_arg0 X_arg1 G_arg2 G_arg3) where
  post _ := iprop((arg0.view.loc (c : Thread nD τ) ↦[arg0.view.set]{fullShare} X_arg0) ∗ (arg1.view.loc (c : Thread nD τ) ↦[arg1.view.set]{fullShare} X_arg1) ∗ (∃ f, (arg2.view.loc (c : Thread nD τ) ↦[arg2.view.set]{fullShare} f) ∗ ⌜f = arg2.view.writes (Elt F) arg2.view.junk (pb_k0_t1 (F := F) 𝒱 c bd arg0 harg0 arg1 harg1 arg2 harg2 arg3 harg3 arg4 harg4 arg5 harg5 arg6 harg6 arg7 harg7 X_arg0 X_arg1 k0_t1_loop.trips).1⌝) ∗ (∃ f, (arg3.view.loc (c : Thread nD τ) ↦[arg3.view.set]{fullShare} f) ∗ ⌜f = arg3.view.writes (Elt F) G_arg3 (pb_k0_t1 (F := F) 𝒱 c bd arg0 harg0 arg1 harg1 arg2 harg2 arg3 harg3 arg4 harg4 arg5 harg5 arg6 harg6 arg7 harg7 X_arg0 X_arg1 k0_t1_loop.trips).2⌝))
  exit acc := by
    have e := writes_eq_junk_of_cover harg2 G_arg2 _ (cover_k0_t1_2 (F := F) 𝒱 c bd arg0 harg0 arg1 harg1 arg2 harg2 arg3 harg3 arg4 harg4 arg5 harg5 arg6 harg6 arg7 harg7 X_arg0 X_arg1)
    have h : inv_k0_t1 (F := F) 𝒱 c bd arg0 harg0 arg1 harg1 arg2 harg2 arg3 harg3 arg4 harg4 arg5 harg5 arg6 harg6 arg7 harg7 X_arg0 X_arg1 G_arg2 G_arg3 k0_t1_loop.trips acc = iprop((arg0.view.loc (c : Thread nD τ) ↦[arg0.view.set]{fullShare} X_arg0) ∗ (arg1.view.loc (c : Thread nD τ) ↦[arg1.view.set]{fullShare} X_arg1) ∗ (∃ f, (arg2.view.loc (c : Thread nD τ) ↦[arg2.view.set]{fullShare} f) ∗ ⌜f = arg2.view.writes (Elt F) arg2.view.junk (pb_k0_t1 (F := F) 𝒱 c bd arg0 harg0 arg1 harg1 arg2 harg2 arg3 harg3 arg4 harg4 arg5 harg5 arg6 harg6 arg7 harg7 X_arg0 X_arg1 k0_t1_loop.trips).1⌝) ∗ (∃ f, (arg3.view.loc (c : Thread nD τ) ↦[arg3.view.set]{fullShare} f) ∗ ⌜f = arg3.view.writes (Elt F) G_arg3 (pb_k0_t1 (F := F) 𝒱 c bd arg0 harg0 arg1 harg1 arg2 harg2 arg3 harg3 arg4 harg4 arg5 harg5 arg6 harg6 arg7 harg7 X_arg0 X_arg1 k0_t1_loop.trips).2⌝)) := by
      unfold inv_k0_t1
      rw [e]
    exact h ▸ BIBase.Entails.rfl

/-- One trip of the second loop of the weight kernel leaves pieces that do not depend on what the codes' buffer held
    before it: the trip reads back only the accumulator. -/
theorem tripL_k1_t2_codes (𝒱 : Variants) (c : Dev nD) (bd : Option 𝒱.V) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (v2 : FVec F S8x256 .f32) (X_arg1 : BufTy.Contents (Elt F) arg1.view.ty) (X_arg2 : BufTy.Contents (Elt F) arg2.view.ty) (X_arg3 : BufTy.Contents (Elt F) arg3.view.ty) (k : Fin k1_t2_loop.trips) (f5 f5' : BufTy.Contents (Elt F) arg5.view.ty) (f8 : BufTy.Contents (Elt F) arg8.view.ty) :
    tripL_k1_t2 (F := F) 𝒱 c bd i arg1 harg1 arg2 harg2 arg3 harg3 arg4 harg4 arg5 harg5 arg6 harg6 arg7 harg7 arg8 harg8 v2 X_arg1 X_arg2 X_arg3 k f5 f8 = tripL_k1_t2 (F := F) 𝒱 c bd i arg1 harg1 arg2 harg2 arg3 harg3 arg4 harg4 arg5 harg5 arg6 harg6 arg7 harg7 arg8 harg8 v2 X_arg1 X_arg2 X_arg3 k f5' f8 := by
  unfold tripL_k1_t2 trip_k1_t2; rfl

/-- The pieces of the first `k` trips do not depend on what the codes' buffer held at the loop's entry. -/
theorem pb_k1_t2_codes (𝒱 : Variants) (c : Dev nD) (bd : Option 𝒱.V) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (v2 : FVec F S8x256 .f32) (X_arg1 : BufTy.Contents (Elt F) arg1.view.ty) (X_arg2 : BufTy.Contents (Elt F) arg2.view.ty) (X_arg3 : BufTy.Contents (Elt F) arg3.view.ty) (G5 G5' : BufTy.Contents (Elt F) arg5.view.ty) (G8 : BufTy.Contents (Elt F) arg8.view.ty) (k : ℕ) (hk : k ≤ k1_t2_loop.trips) :
    pb_k1_t2 (F := F) 𝒱 c bd i arg1 harg1 arg2 harg2 arg3 harg3 arg4 harg4 arg5 harg5 arg6 harg6 arg7 harg7 arg8 harg8 v2 X_arg1 X_arg2 X_arg3 G5 G8 k = pb_k1_t2 (F := F) 𝒱 c bd i arg1 harg1 arg2 harg2 arg3 harg3 arg4 harg4 arg5 harg5 arg6 harg6 arg7 harg7 arg8 harg8 v2 X_arg1 X_arg2 X_arg3 G5' G8 k := by
  induction k with
  | zero => rfl
  | succ k ih =>
    have h := pb_k1_t2_succ (F := F) 𝒱 c bd i arg1 harg1 arg2 harg2 arg3 harg3 arg4 harg4 arg5 harg5 arg6 harg6 arg7 harg7 arg8 harg8 v2 X_arg1 X_arg2 X_arg3 G5 G8 ⟨k, hk⟩
    have h' := pb_k1_t2_succ (F := F) 𝒱 c bd i arg1 harg1 arg2 harg2 arg3 harg3 arg4 harg4 arg5 harg5 arg6 harg6 arg7 harg7 arg8 harg8 v2 X_arg1 X_arg2 X_arg3 G5' G8 ⟨k, hk⟩
    dsimp only at h h'
    have e := tripL_k1_t2_codes (F := F) 𝒱 c bd i arg1 harg1 arg2 harg2 arg3 harg3 arg4 harg4 arg5 harg5 arg6 harg6 arg7 harg7 arg8 harg8 v2 X_arg1 X_arg2 X_arg3 ⟨k, hk⟩ (arg5.view.writes (Elt F) G5 (pb_k1_t2 (F := F) 𝒱 c bd i arg1 harg1 arg2 harg2 arg3 harg3 arg4 harg4 arg5 harg5 arg6 harg6 arg7 harg7 arg8 harg8 v2 X_arg1 X_arg2 X_arg3 G5' G8 k).1) (arg5.view.writes (Elt F) G5' (pb_k1_t2 (F := F) 𝒱 c bd i arg1 harg1 arg2 harg2 arg3 harg3 arg4 harg4 arg5 harg5 arg6 harg6 arg7 harg7 arg8 harg8 v2 X_arg1 X_arg2 X_arg3 G5' G8 k).1) (arg8.view.writes (Elt F) G8 (pb_k1_t2 (F := F) 𝒱 c bd i arg1 harg1 arg2 harg2 arg3 harg3 arg4 harg4 arg5 harg5 arg6 harg6 arg7 harg7 arg8 harg8 v2 X_arg1 X_arg2 X_arg3 G5' G8 k).2)
    obtain ⟨e1, e2⟩ := Prod.mk.inj e
    rw [h, h', ih (Nat.le_of_succ_le hk), e1, e2]

set_option warn.classDefReducibility false in
/-- What the second loop of the weight kernel hands on: the invariant at the trip count with its pieces stated over junk
    in the codes' buffer, so that they name nothing the buffer held before. -/
instance loopExit_k1_t2 (𝒱 : Variants) (c : Dev nD) (bd : Option 𝒱.V) (E : Set ℕ) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (v2 : FVec F S8x256 .f32) (X_arg1 : BufTy.Contents (Elt F) arg1.view.ty) (X_arg2 : BufTy.Contents (Elt F) arg2.view.ty) (X_arg3 : BufTy.Contents (Elt F) arg3.view.ty) (G_arg5 : BufTy.Contents (Elt F) arg5.view.ty) (G_arg8 : BufTy.Contents (Elt F) arg8.view.ty) :
    LoopExit (loopInv_k1_t2 (F := F) 𝒱 c bd E i arg1 harg1 arg2 harg2 arg3 harg3 arg4 harg4 arg5 harg5 arg6 harg6 arg7 harg7 arg8 harg8 v2 X_arg1 X_arg2 X_arg3 G_arg5 G_arg8) where
  post _ := iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).1⌝) ∗ (∃ f, (arg8.view.loc (c : Thread nD τ) ↦[arg8.view.set]{fullShare} f) ∗ ⌜f = arg8.view.writes (Elt F) G_arg8 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).2⌝))
  exit acc := by
    have e := pb_k1_t2_codes (F := F) 𝒱 c bd i arg1 harg1 arg2 harg2 arg3 harg3 arg4 harg4 arg5 harg5 arg6 harg6 arg7 harg7 arg8 harg8 v2 X_arg1 X_arg2 X_arg3 G_arg5 arg5.view.junk G_arg8 k1_t2_loop.trips le_rfl
    have h : inv_k1_t2 (F := F) 𝒱 c bd i arg1 harg1 arg2 harg2 arg3 harg3 arg4 harg4 arg5 harg5 arg6 harg6 arg7 harg7 arg8 harg8 v2 X_arg1 X_arg2 X_arg3 G_arg5 G_arg8 k1_t2_loop.trips acc = iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).1⌝) ∗ (∃ f, (arg8.view.loc (c : Thread nD τ) ↦[arg8.view.set]{fullShare} f) ∗ ⌜f = arg8.view.writes (Elt F) G_arg8 (pb_k1_t2 (F := F) 𝒱 c bd i arg1 harg1 arg2 harg2 arg3 harg3 arg4 harg4 arg5 harg5 arg6 harg6 arg7 harg7 arg8 harg8 v2 X_arg1 X_arg2 X_arg3 arg5.view.junk G_arg8 k1_t2_loop.trips).2⌝)) := by
      unfold inv_k1_t2
      rw [e]
    exact h ▸ BIBase.Entails.rfl

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_act_quant` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S1x14336 .f32 := (Memref.whole cc0_stg2_0 : Memref sig .tc .vmem S1x14336 .f32).view
/-- One staging buffer of output window 3, through which its contents are stated (`View.read_writes_of_cover`: the
    choice does not matter). -/
abbrev VO0_3 : View sig .tc .vmem S14336x128 .f32 := (Memref.whole cc0_stg3_0 : Memref sig .tc .vmem S14336x128 .f32).view
/-- One staging buffer of output window 4, through which its contents are stated (`View.read_writes_of_cover`: the
    choice does not matter). -/
abbrev VO0_4 : View sig .tc .vmem S256x14336 .i8 := (Memref.whole cc0_stg4_0 : Memref sig .tc .vmem S256x14336 .i8).view
/-- One staging buffer of output window 5, through which its contents are stated (`View.read_writes_of_cover`: the
    choice does not matter). -/
abbrev VO0_5 : View sig .tc .vmem S256x14336 .bf16 := (Memref.whole cc0_stg5_0 : Memref sig .tc .vmem S256x14336 .bf16).view
/-- One staging buffer of output window 6, through which its contents are stated (`View.read_writes_of_cover`: the
    choice does not matter). -/
abbrev VO0_6 : View sig .tc .vmem S256x1 .f32 := (Memref.whole cc0_stg6_0 : Memref sig .tc .vmem S256x1 .f32).view
/-- One staging buffer of output window 7, through which its contents are stated (`View.read_writes_of_cover`: the
    choice does not matter). -/
abbrev VO0_7 : View sig .tc .vmem S256x1 .i32 := (Memref.whole cc0_stg7_0 : Memref sig .tc .vmem S256x1 .i32).view
/-- Each window's current staging memref at point `t`, spelled as the pipeline passes it (`bodyAt0`), and its wholeness. -/
abbrev ms0_0 (t : Fin cfg0.N) : Memref sig .tc .vmem S256x14336 .bf16 := win0_0.stage (cfg0.slots t 0)
abbrev hs0_0 (t : Fin cfg0.N) : (ms0_0 t).IsWhole := hstage0_0 0
abbrev ms0_1 (t : Fin cfg0.N) : Memref sig .tc .vmem S1x14336 .f32 := win0_1.stage (cfg0.slots t 1)
abbrev hs0_1 (t : Fin cfg0.N) : (ms0_1 t).IsWhole := hstage0_1 0
abbrev ms0_2 (t : Fin cfg0.N) : Memref sig .tc .vmem S1x14336 .f32 := win0_2.stage (cfg0.slots t 2)
abbrev hs0_2 (t : Fin cfg0.N) : (ms0_2 t).IsWhole := hstage0_2 0
abbrev ms0_3 (t : Fin cfg0.N) : Memref sig .tc .vmem S14336x128 .f32 := win0_3.stage (cfg0.slots t 3)
abbrev hs0_3 (t : Fin cfg0.N) : (ms0_3 t).IsWhole := hstage0_3 0
abbrev ms0_4 (t : Fin cfg0.N) : Memref sig .tc .vmem S256x14336 .i8 := win0_4.stage (cfg0.slots t 4)
abbrev hs0_4 (t : Fin cfg0.N) : (ms0_4 t).IsWhole := hstage0_4 0
abbrev ms0_5 (t : Fin cfg0.N) : Memref sig .tc .vmem S256x14336 .bf16 := win0_5.stage (cfg0.slots t 5)
abbrev hs0_5 (t : Fin cfg0.N) : (ms0_5 t).IsWhole := hstage0_5 0
abbrev ms0_6 (t : Fin cfg0.N) : Memref sig .tc .vmem S256x1 .f32 := win0_6.stage (cfg0.slots t 6)
abbrev hs0_6 (t : Fin cfg0.N) : (ms0_6 t).IsWhole := hstage0_6 0
abbrev ms0_7 (t : Fin cfg0.N) : Memref sig .tc .vmem S256x1 .i32 := win0_7.stage (cfg0.slots t 7)
abbrev hs0_7 (t : Fin cfg0.N) : (ms0_7 t).IsWhole := hstage0_7 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) :
    Σ' (L2 : List (View.Piece (Elt F) S1x14336 .f32)), Σ' (L3 : List (View.Piece (Elt F) S14336x128 .f32)), Σ' (L4 : List (View.Piece (Elt F) S256x14336 .i8)), Σ' (L5 : List (View.Piece (Elt F) S256x14336 .bf16)), Σ' (L6 : List (View.Piece (Elt F) S256x1 .f32)), { L7 : List (View.Piece (Elt F) S256x1 .i32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0_act_quant arg0 harg0 arg1 harg1 arg2 harg2 arg3 harg3 arg4 harg4 arg5 harg5 arg6 harg6 arg7 harg7) K } := by
  refine ⟨?_, ?_, ?_, ?_, ?_, ?_, fun E K => ?run⟩
  case run =>
    simp only [cc0_act_quant_eq_skeleton]; unfold cc0_act_quant_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

/-- The run's pieces for output 2 tile its block (112 stores of `S1x128`, checked by the kernel's evaluation: Lib/Ring.lean `Piece.tiledL`, linear in the pieces, through a loop's `@[irreducible]` trip theorem too), so they cover it. -/
theorem cover0_A_2 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S1x14336.Idx) :
    ∃ pc ∈ (kernelRun0_A c arg0 harg0 arg1 harg1 arg2 harg2 arg3 harg3 arg4 harg4 arg5 harg5 arg6 harg6 arg7 harg7 x0 x1).1, y ∈ pc.1.set :=
  View.cover_of_tiledL (kernelRun0_A c arg0 harg0 arg1 harg1 arg2 harg2 arg3 harg3 arg4 harg4 arg5 harg5 arg6 harg6 arg7 harg7 x0 x1).1 S1x128.size (by sl_kernel_rfl) y

/-- What the run leaves in output 2's staging buffer: its pieces read back over junk. -/
def out0_A_2 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S1x14336 .f32 :=
  VO0_2.read (Elt F) (VO0_2.writes (Elt F) VO0_2.junk (kernelRun0_A c arg0 harg0 arg1 harg1 arg2 harg2 arg3 harg3 arg4 harg4 arg5 harg5 arg6 harg6 arg7 harg7 x0 x1).1)

/-- The run's pieces for output 3 tile its block (112 stores of `S128x128`, checked by the kernel's evaluation: Lib/Ring.lean `Piece.tiledL`, linear in the pieces, through a loop's `@[irreducible]` trip theorem too), so they cover it. -/
theorem cover0_A_3 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S14336x128.Idx) :
    ∃ pc ∈ (kernelRun0_A c arg0 harg0 arg1 harg1 arg2 harg2 arg3 harg3 arg4 harg4 arg5 harg5 arg6 harg6 arg7 harg7 x0 x1).2.1, y ∈ pc.1.set :=
  View.cover_of_tiledL (kernelRun0_A c arg0 harg0 arg1 harg1 arg2 harg2 arg3 harg3 arg4 harg4 arg5 harg5 arg6 harg6 arg7 harg7 x0 x1).2.1 S128x128.size (by sl_kernel_rfl) y

/-- What the run leaves in output 3's staging buffer: its pieces read back over junk. -/
def out0_A_3 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S14336x128 .f32 :=
  VO0_3.read (Elt F) (VO0_3.writes (Elt F) VO0_3.junk (kernelRun0_A c arg0 harg0 arg1 harg1 arg2 harg2 arg3 harg3 arg4 harg4 arg5 harg5 arg6 harg6 arg7 harg7 x0 x1).2.1)

/-- The run's pieces for output 4 tile its block (8 stores of `S32x14336`, checked by the kernel's evaluation: Lib/Ring.lean `Piece.tiledL`, linear in the pieces, through a loop's `@[irreducible]` trip theorem too), so they cover it. -/
theorem cover0_A_4 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x14336.Idx) :
    ∃ pc ∈ (kernelRun0_A c arg0 harg0 arg1 harg1 arg2 harg2 arg3 harg3 arg4 harg4 arg5 harg5 arg6 harg6 arg7 harg7 x0 x1).2.2.1, y ∈ pc.1.set :=
  View.cover_of_tiledL (kernelRun0_A c arg0 harg0 arg1 harg1 arg2 harg2 arg3 harg3 arg4 harg4 arg5 harg5 arg6 harg6 arg7 harg7 x0 x1).2.2.1 S32x14336.size (by sl_kernel_rfl) y

/-- What the run leaves in output 4's staging buffer: its pieces read back over junk. -/
def out0_A_4 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x14336 .i8 :=
  VO0_4.read (Elt F) (VO0_4.writes (Elt F) VO0_4.junk (kernelRun0_A c arg0 harg0 arg1 harg1 arg2 harg2 arg3 harg3 arg4 harg4 arg5 harg5 arg6 harg6 arg7 harg7 x0 x1).2.2.1)

/-- The run's pieces for output 5 tile its block (8 stores of `S32x14336`, checked by the kernel's evaluation: Lib/Ring.lean `Piece.tiledL`, linear in the pieces, through a loop's `@[irreducible]` trip theorem too), so they cover it. -/
theorem cover0_A_5 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x14336.Idx) :
    ∃ pc ∈ (kernelRun0_A c arg0 harg0 arg1 harg1 arg2 harg2 arg3 harg3 arg4 harg4 arg5 harg5 arg6 harg6 arg7 harg7 x0 x1).2.2.2.1, y ∈ pc.1.set :=
  View.cover_of_tiledL (kernelRun0_A c arg0 harg0 arg1 harg1 arg2 harg2 arg3 harg3 arg4 harg4 arg5 harg5 arg6 harg6 arg7 harg7 x0 x1).2.2.2.1 S32x14336.size (by sl_kernel_rfl) y

/-- What the run leaves in output 5's staging buffer: its pieces read back over junk. -/
def out0_A_5 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x14336 .bf16 :=
  VO0_5.read (Elt F) (VO0_5.writes (Elt F) VO0_5.junk (kernelRun0_A c arg0 harg0 arg1 harg1 arg2 harg2 arg3 harg3 arg4 harg4 arg5 harg5 arg6 harg6 arg7 harg7 x0 x1).2.2.2.1)

/-- The run's pieces for output 6 tile its block (8 stores of `S32x1`, checked by the kernel's evaluation: Lib/Ring.lean `Piece.tiledL`, linear in the pieces, through a loop's `@[irreducible]` trip theorem too), so they cover it. -/
theorem cover0_A_6 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x1.Idx) :
    ∃ pc ∈ (kernelRun0_A c arg0 harg0 arg1 harg1 arg2 harg2 arg3 harg3 arg4 harg4 arg5 harg5 arg6 harg6 arg7 harg7 x0 x1).2.2.2.2.1, y ∈ pc.1.set :=
  View.cover_of_tiledL (kernelRun0_A c arg0 harg0 arg1 harg1 arg2 harg2 arg3 harg3 arg4 harg4 arg5 harg5 arg6 harg6 arg7 harg7 x0 x1).2.2.2.2.1 S32x1.size (by sl_kernel_rfl) y

/-- What the run leaves in output 6's staging buffer: its pieces read back over junk. -/
def out0_A_6 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x1 .f32 :=
  VO0_6.read (Elt F) (VO0_6.writes (Elt F) VO0_6.junk (kernelRun0_A c arg0 harg0 arg1 harg1 arg2 harg2 arg3 harg3 arg4 harg4 arg5 harg5 arg6 harg6 arg7 harg7 x0 x1).2.2.2.2.1)

/-- The run's pieces for output 7 tile its block (8 stores of `S32x1`, checked by the kernel's evaluation: Lib/Ring.lean `Piece.tiledL`, linear in the pieces, through a loop's `@[irreducible]` trip theorem too), so they cover it. -/
theorem cover0_A_7 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) (y : S256x1.Idx) :
    ∃ pc ∈ (kernelRun0_A c arg0 harg0 arg1 harg1 arg2 harg2 arg3 harg3 arg4 harg4 arg5 harg5 arg6 harg6 arg7 harg7 x0 x1).2.2.2.2.2.1, y ∈ pc.1.set :=
  View.cover_of_tiledL (kernelRun0_A c arg0 harg0 arg1 harg1 arg2 harg2 arg3 harg3 arg4 harg4 arg5 harg5 arg6 harg6 arg7 harg7 x0 x1).2.2.2.2.2.1 S32x1.size (by sl_kernel_rfl) y

/-- What the run leaves in output 7's staging buffer: its pieces read back over junk. -/
def out0_A_7 (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole)
    (x0 : Vec F S256x14336 .bf16) (x1 : Vec F S1x14336 .f32) : Vec F S256x1 .i32 :=
  VO0_7.read (Elt F) (VO0_7.writes (Elt F) VO0_7.junk (kernelRun0_A c arg0 harg0 arg1 harg1 arg2 harg2 arg3 harg3 arg4 harg4 arg5 harg5 arg6 harg6 arg7 harg7 x0 x1).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x14336 .f32 × Vec F S14336x128 .f32 × Vec F S256x14336 .i8 × Vec F S256x14336 .bf16 × Vec F S256x1 .f32 × Vec F S256x1 .i32 :=
  (out0_A_2 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_3 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2.1
    | ⟨4, _⟩ => (outsAt0 V c t).2.2.1
    | ⟨5, _⟩ => (outsAt0 V c t).2.2.2.1
    | ⟨6, _⟩ => (outsAt0 V c t).2.2.2.2.1
    | ⟨7, _⟩ => (outsAt0 V c t).2.2.2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2.1 := by dsimp only [dat0]
theorem after0_4 (c : Dev nD) (t : Fin cfg0.N) : (dat0 V c).after 4 t = (outsAt0 V c t).2.2.1 := by dsimp only [dat0]
theorem after0_5 (c : Dev nD) (t : Fin cfg0.N) : (dat0 V c).after 5 t = (outsAt0 V c t).2.2.2.1 := by dsimp only [dat0]
theorem after0_6 (c : Dev nD) (t : Fin cfg0.N) : (dat0 V c).after 6 t = (outsAt0 V c t).2.2.2.2.1 := by dsimp only [dat0]
theorem after0_7 (c : Dev nD) (t : Fin cfg0.N) : (dat0 V c).after 7 t = (outsAt0 V c t).2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outsAt0
  unfold out0_A_2 out0_A_3 out0_A_4 out0_A_5 out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c _ _ _ _ _ _ _ _ _ _ _ _ _ _ _ _ (iblk0 V c 0 t) (iblk0 V c 1 t)).2.2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, ⟨%e2, H2⟩, ⟨%e3, H3⟩, ⟨%e4, H4⟩, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_weight_quant_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S14336x256 .i8 := (Memref.whole cc1_stg4_0 : Memref sig .tc .vmem S14336x256 .i8).view
/-- One staging buffer of output window 5, through which its contents are stated (`View.read_writes_of_cover`: the
    choice does not matter). -/
abbrev VO1_5 : View sig .tc .vmem S1x256 .f32 := (Memref.whole cc1_stg5_0 : Memref sig .tc .vmem S1x256 .f32).view
/-- One staging buffer of output window 6, through which its contents are stated (`View.read_writes_of_cover`: the
    choice does not matter). -/
abbrev VO1_6 : View sig .tc .vmem S256x256 .bf16 := (Memref.whole cc1_stg6_0 : Memref sig .tc .vmem S256x256 .bf16).view
/-- Each window's current staging memref at point `t`, spelled as the pipeline passes it (`bodyAt1`), and its wholeness. -/
abbrev ms1_0 (t : Fin cfg1.N) : Memref sig .tc .vmem S14336x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S14336x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x14336 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S14336x256 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S256x256 .f32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) :
    Σ' (L4 : List (View.Piece (Elt F) S14336x256 .i8)), Σ' (L5 : List (View.Piece (Elt F) S1x256 .f32)), { L6 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d)) -∗ K ⟨⟩))
          ⊢ wp frame (wpE (defs₀ (F := F)) Variants.none c none) E (cc1_weight_quant_matmul i arg1 harg1 arg2 harg2 arg3 harg3 arg4 harg4 arg5 harg5 arg6 harg6 arg7 harg7 arg8 harg8) K } := by
  refine ⟨?_, ?_, ?_, fun E K => ?run⟩
  case run =>
    simp only [cc1_weight_quant_matmul_eq_skeleton]; unfold cc1_weight_quant_matmul_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _, _; isplitr; swap; · iexact HS0
    ipureintro; rfl

/-- The run's pieces for output 4 tile its block (28 stores of `S512x256`, checked by the kernel's evaluation: Lib/Ring.lean `Piece.tiledL`, linear in the pieces, through a loop's `@[irreducible]` trip theorem too), so they cover it. -/
theorem cover1_A_4 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) (y : S14336x256.Idx) :
    ∃ pc ∈ (kernelRun1_A c i arg1 harg1 arg2 harg2 arg3 harg3 arg4 harg4 arg5 harg5 arg6 harg6 arg7 harg7 arg8 harg8 x0 x1 x2 x3).1, y ∈ pc.1.set :=
  View.cover_of_tiledL (kernelRun1_A c i arg1 harg1 arg2 harg2 arg3 harg3 arg4 harg4 arg5 harg5 arg6 harg6 arg7 harg7 arg8 harg8 x0 x1 x2 x3).1 S512x256.size (by sl_kernel_rfl) y

/-- What the run leaves in output 4's staging buffer: its pieces read back over junk. -/
def out1_A_4 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) : Vec F S14336x256 .i8 :=
  VO1_4.read (Elt F) (VO1_4.writes (Elt F) VO1_4.junk (kernelRun1_A c i arg1 harg1 arg2 harg2 arg3 harg3 arg4 harg4 arg5 harg5 arg6 harg6 arg7 harg7 arg8 harg8 x0 x1 x2 x3).1)

/-- The run's pieces for output 5 tile its block (1 store of `S1x256`, checked by the kernel's evaluation: Lib/Ring.lean `Piece.tiledL`, linear in the pieces, through a loop's `@[irreducible]` trip theorem too), so they cover it. -/
theorem cover1_A_5 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) (y : S1x256.Idx) :
    ∃ pc ∈ (kernelRun1_A c i arg1 harg1 arg2 harg2 arg3 harg3 arg4 harg4 arg5 harg5 arg6 harg6 arg7 harg7 arg8 harg8 x0 x1 x2 x3).2.1, y ∈ pc.1.set :=
  View.cover_of_tiledL (kernelRun1_A c i arg1 harg1 arg2 harg2 arg3 harg3 arg4 harg4 arg5 harg5 arg6 harg6 arg7 harg7 arg8 harg8 x0 x1 x2 x3).2.1 S1x256.size (by sl_kernel_rfl) y

/-- What the run leaves in output 5's staging buffer: its pieces read back over junk. -/
def out1_A_5 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) : Vec F S1x256 .f32 :=
  VO1_5.read (Elt F) (VO1_5.writes (Elt F) VO1_5.junk (kernelRun1_A c i arg1 harg1 arg2 harg2 arg3 harg3 arg4 harg4 arg5 harg5 arg6 harg6 arg7 harg7 arg8 harg8 x0 x1 x2 x3).2.1)

/-- The run's pieces for output 6 tile its block (1 store of `S256x256`, checked by the kernel's evaluation: Lib/Ring.lean `Piece.tiledL`, linear in the pieces, through a loop's `@[irreducible]` trip theorem too), so they cover it. -/
theorem cover1_A_6 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) (y : S256x256.Idx) :
    ∃ pc ∈ (kernelRun1_A c i arg1 harg1 arg2 harg2 arg3 harg3 arg4 harg4 arg5 harg5 arg6 harg6 arg7 harg7 arg8 harg8 x0 x1 x2 x3).2.2.1, y ∈ pc.1.set :=
  View.cover_of_tiledL (kernelRun1_A c i arg1 harg1 arg2 harg2 arg3 harg3 arg4 harg4 arg5 harg5 arg6 harg6 arg7 harg7 arg8 harg8 x0 x1 x2 x3).2.2.1 S256x256.size (by sl_kernel_rfl) y

/-- What the run leaves in output 6's staging buffer: its pieces read back over junk. -/
def out1_A_6 (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole)
    (x0 : Vec F S14336x256 .bf16) (x1 : Vec F S14336x128 .f32) (x2 : Vec F S256x14336 .bf16) (x3 : Vec F S256x1 .f32) : Vec F S256x256 .bf16 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3).2.2.1)

/-! ## What the outputs hold after each point -/

/-- What the outputs' staging buffers hold after the body at point `t` (as a tuple, in window order): the run's contents at
    the point's memrefs and input blocks. -/
def outsAt1 (c : Dev nD) (t : Fin cfg1.N) : Vec F S14336x256 .i8 × Vec F S1x256 .f32 × Vec F S256x256 .bf16 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  unfold out1_A_4 out1_A_5 out1_A_6; (try dsimp only)
  iintro ⟨⟨⟨HR0, HR1, HR2, HR3, HR4, HR5, HR6, HR7, HS0⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ (iblk1 V c 0 t) (iblk1 V c 1 t) (iblk1 V c 2 t) (iblk1 V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  iintro ⟨H0, H1, H2, H3, ⟨%e4, H4⟩, ⟨%e5, H5⟩, ⟨%e6, H6⟩, HS0⟩
  isplitl [HR0 HR1 HR2 HR3 HR4 HR5 HR6 HR7 HS0 Hg]
  · isplitl [HR0 HR1 HR2 HR3 HR4 HR5 HR6 HR7 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      iexact HS0
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7, main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.KernelIdeal.Gen

end
-- ==== Proof.KernelRun.lean ====
/-
  Hand-written, untrusted. The kernel's run with its seven result buffers at the last boundary's contents, beside its unchanged
  arguments.
-/
module

public import proofs.«01_k».proof.Proof.KernelIdealFrame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run from zero counters ends with each result buffer at the contents computed through the segments, and the
    arguments as launched. -/
theorem run_values : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_v3_0) = W4 m ρ c (Proc.devRef .tc main_v3_0)
      ∧ r.2.mem ((c.tc : Thread nD τ).loc main_v6) = W4 m ρ c (Proc.devRef .tc main_v6)
      ∧ r.2.mem ((c.tc : Thread nD τ).loc main_v7) = W4 m ρ c (Proc.devRef .tc main_v7)
      ∧ r.2.mem ((c.tc : Thread nD τ).loc main_v8) = W4 m ρ c (Proc.devRef .tc main_v8)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v4 (by decide)),
       h c _ (mem_uc main_v5 (by decide)),
       h c _ (mem_uc main_v3_0 (by decide)),
       h c _ (mem_uc main_v6 (by decide)),
       h c _ (mem_uc main_v7 (by decide)),
       h c _ (mem_uc main_v8 (by decide)),
       h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Gen
-- ==== Proof.Spec.lean ====
/-
  Hand-written, untrusted. What both programs compute, on extended reals: the smoothing factors, the 8-bit codes of an activation
  row with its scale and its zero point, the 8-bit codes of a weight column with its scale, and one entry of the product.
-/
module

public import Idealize.ShloMosaic.Lib.Pointwise

@[expose] public section

noncomputable section

namespace Cert.Proof.Spec

open Idealize.ShloMosaic

/-- The floor of the maxima of absolute values, `f32(1e-5)`. -/
abbrev flr : EReal := Ideal.ofBits .f32 925353388#32

/-- A value rounded to the nearest integer, ties to even. -/
abbrev rnd (x : EReal) : EReal := Ideal.liftRound Ideal.roundHalfEven x

/-- The largest absolute value of a family, minus infinity of the empty one. -/
abbrev amax {ι : Type} [Fintype ι] (f : ι → EReal) : EReal :=
  Finset.fold max (Ideal.ofBits .f32 4286578688#32) (fun i => max (f i) (-f i)) Finset.univ

/-- The smoothing factor of a channel: the root of the channel's largest absolute activation over the root of the
    weight's largest absolute value in the channel, both maxima under the floor. -/
abbrev smooth {ι : Type} [Fintype ι] (xcol : ι → EReal) (b : EReal) : EReal :=
  Ideal.div (Ideal.sqrt (max (amax xcol) flr)) (Ideal.sqrt (max b flr))

section Row

variable {n : Nat} (s row : Fin n → EReal)

/-- The smoothed activation. -/
abbrev xs (k : Fin n) : EReal := Ideal.div (row k) (s k)

/-- The least smoothed activation of a row, zero at most. -/
abbrev mn : EReal := min (Finset.fold min (Ideal.ofBits .f32 2139095040#32) (xs s row) Finset.univ) 0

/-- The greatest smoothed activation of a row, zero at least. -/
abbrev mx : EReal := max (Finset.fold max (Ideal.ofBits .f32 4286578688#32) (xs s row) Finset.univ) 0

/-- The scale of a row. -/
abbrev sc : EReal := if mx s row = mn s row then 1 else Ideal.div (mx s row - mn s row) (Ideal.ofBits .f32 1132396544#32)

/-- The zero point of a row, an integer of [0, 255]. -/
abbrev zr : EReal :=
  min (((255#32).toInt : ℝ) : EReal) (max (((0#32).toInt : ℝ) : EReal) (rnd (Ideal.div (0 - mn s row) (sc s row))))

/-- The code of an activation, an integer of [0, 255]. -/
abbrev cf (k : Fin n) : EReal :=
  min (((255#32).toInt : ℝ) : EReal) (max (((0#32).toInt : ℝ) : EReal) (rnd (Ideal.div (xs s row k) (sc s row)) + zr s row))

end Row

section Column

variable {n : Nat} (s col : Fin n → EReal)

/-- The scale of a weight column: its largest absolute smoothed value over 127, one where that is zero. -/
abbrev wsc : EReal :=
  if amax (fun k => col k * s k) = 0 then 1 else Ideal.div (amax (fun k => col k * s k)) (Ideal.ofBits .f32 1123942400#32)

/-- The code of a weight before its conversion to a word, an integer of [-127, 127]. -/
abbrev qf (k : Fin n) : EReal :=
  min (((127#32).toInt : ℝ) : EReal) (max (((4294967169#32).toInt : ℝ) : EReal) (rnd (Ideal.div (col k * s k) (wsc s col))))

/-- The code of a weight, a signed 8-bit word. -/
abbrev q (k : Fin n) : BitVec 8 := Ideal.fptosi 8 (qf s col k)

/-- An entry of the product: the activation codes less their zero point against the weight codes, summed, then scaled by
    the row's scale and the column's. -/
abbrev y (row : Fin n → EReal) : EReal :=
  (∑ k, (cf s row k - zr s row) * (((q s col k).toInt : ℝ) : EReal)) * sc s row * wsc s col

end Column

end Cert.Proof.Spec
-- ==== Proof.Folds.lean ====
/-
  Hand-written, untrusted. A maximum or a minimum along one axis at the extended reals, as the fold over the axis's coordinates.
-/
module

public import Idealize.ShloMosaic.Lib.Pointwise

@[expose] public section

noncomputable section

namespace Cert.Proof.Folds

open Idealize.ShloMosaic

/-- A minimum along one axis is the fold of the minimum over the axis's coordinates. -/
theorem red_min {s t : Shape} {φ : FTy} {a : Fin s.rank} (src : FVec Ideal s φ) (acc : BitVec φ.bits) (h : s.Reduces [a] t)
    (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

/-- A maximum along one axis is the fold of the maximum over the axis's coordinates. -/
theorem red_max {s t : Shape} {φ : FTy} {a : Fin s.rank} (src : FVec Ideal s φ) (acc : BitVec φ.bits) (h : s.Reduces [a] t)
    (hφ : FKind.Formats φ) (hacc : acc = FKind.maximumf.neutral φ hφ) (j : t.Idx) :
    multiReduction .maximumf [a] t src acc h hφ hacc j
      = (Finset.univ : Finset (Fin (s.size a))).fold max (Ideal.ofBits φ acc) (src ∘ h.lift j) := by
  rw [multiReduction_maximumf_eq_fold]
  exact h.fold_filter_drop_single _ _ src j

end Cert.Proof.Folds
-- ==== Proof.Payloads.lean ====
/-
  Hand-written, untrusted. What each value the kernel's bodies store is at an index, at the extended reals.
-/
module

public import proofs.«01_k».proof.Proof.Spec
public import proofs.«01_k».proof.Proof.Folds
public import proofs.«01_k».proof.Proof.Gen.KernelIdeal.Loops
public import Idealize.ShloMosaic.Lib.Pointwise

@[expose] public section

set_option maxRecDepth 16384

noncomputable section

namespace Cert.Proof.Payloads

open Idealize.ShloMosaic Idealize.ShloMosaic.TcCoe Idealize.ShloMosaic.Tactic
open Cert.KernelIdeal Cert.KernelIdeal.Gen

/-- A block of 128 smoothing factors, from the activation columns and the weight's maxima. -/
theorem act_s (v5 v15) (j : S1x128.Idx) :
    k0_pay1 (F := Ideal) v5 v15 j = Spec.smooth (fun i : Fin 256 => v5 (ix2 i (j 1))) (v15 j) := by
  pointwise [k0_pay1]
  rfl

/-- The same factors down the rows of a square block. -/
theorem act_scol (v5 v15) (j : S128x128.Idx) :
    k0_pay2 (F := Ideal) v5 v15 j = k0_pay1 v5 v15 (ix2 0 (j 0)) := by
  pointwise [k0_pay2]

/-- The smoothed activations of a block of 32 rows. -/
theorem act_xs (v5 v8) (j : S32x14336.Idx) :
    k0_pay7 (F := Ideal) v5 v8 j = Spec.xs (fun k : Fin 14336 => v8 (ix2 0 k)) (fun k => v5 (ix2 (j 0) k)) (j 1) := by
  pointwise [k0_pay7]
  idx_vars j

/-- A row's index with the column inserted. -/
theorem lift_row (h : S32x14336.Reduces [1] S32) (r : Fin 32) (k : Fin 14336) : h.lift (ix1 r) k = ix2 r k := by
  funext a
  fin_cases a <;> rfl

/-- The least value of each row held under zero, as a column. -/
theorem mn_of (v12 : FVec Ideal S32 .f32) (j : S32x1.Idx) :
    minimumf (shapeCast S32x1 v12 shapeCasts_S32_S32x1) (broadcast S32x1 (Scalar.ofBits (F := Ideal) .f32 0x00000000#32)) j
      = min (v12 (ix1 (j 0))) 0 := by
  pointwise []

/-- The scale of each row from its least and greatest value. -/
theorem sc_of (v16 : FVec Ideal S32 .f32) (m : FVec Ideal S32x1 .f32) (j : S32x1.Idx) :
    select
        (cmpf .oeq (maximumf (shapeCast S32x1 v16 shapeCasts_S32_S32x1) (broadcast S32x1 (Scalar.ofBits (F := Ideal) .f32 0x00000000#32))) m)
        (broadcast S32x1 (Scalar.ofBits (F := Ideal) .f32 0x3F800000#32))
        (divf (subf (maximumf (shapeCast S32x1 v16 shapeCasts_S32_S32x1) (broadcast S32x1 (Scalar.ofBits (F := Ideal) .f32 0x00000000#32))) m)
          (broadcast S32x1 (Scalar.ofBits (F := Ideal) .f32 0x437F0000#32))) j
      = if max (v16 (ix1 (j 0))) 0 = m j then 1
        else Ideal.div (max (v16 (ix1 (j 0))) 0 - m j) (Ideal.ofBits .f32 1132396544#32) := by
  pointwise []

/-- The least smoothed activation of each row, zero at most. -/
theorem act_mn (v5 v8) (j : S32x1.Idx) :
    k0_pay8 (F := Ideal) v5 v8 j = Spec.mn (fun k : Fin 14336 => v8 (ix2 0 k)) (fun k => v5 (ix2 (j 0) k)) := by
  refine (mn_of _ j).trans (congrArg (min · 0) ?_)
  refine (Folds.red_min _ _ _ _ _ _).trans ?_
  refine congrArg (fun f => Finset.fold min (Ideal.ofBits .f32 2139095040#32) f (Finset.univ : Finset (Fin 14336))) (funext fun k => ?_)
  exact (congrArg (k0_pay7 (F := Ideal) v5 v8) (lift_row _ (j 0) k)).trans (act_xs v5 v8 _)

/-- The scale of each row. -/
theorem act_sc (v5 v8) (j : S32x1.Idx) :
    k0_pay9 (F := Ideal) v5 v8 j = Spec.sc (fun k : Fin 14336 => v8 (ix2 0 k)) (fun k => v5 (ix2 (j 0) k)) := by
  have hm : multiReduction .maximumf [1] S32 (k0_pay7 (F := Ideal) v5 v8) 0xFF800000#32 reduces_S32x14336_S32 (.inl rfl) rfl (ix1 (j 0))
      = Finset.fold max (Ideal.ofBits .f32 4286578688#32)
          (Spec.xs (fun k : Fin 14336 => v8 (ix2 0 k)) (fun k => v5 (ix2 (j 0) k))) Finset.univ := by
    refine (Folds.red_max _ _ _ _ _ _).trans ?_
    refine congrArg (fun f => Finset.fold max (Ideal.ofBits .f32 4286578688#32) f (Finset.univ : Finset (Fin 14336))) (funext fun k => ?_)
    exact (congrArg (k0_pay7 (F := Ideal) v5 v8) (lift_row _ (j 0) k)).trans (act_xs v5 v8 _)
  refine (sc_of _ (k0_pay8 (F := Ideal) v5 v8) j).trans ?_
  rw [hm, act_mn]

/-- A vector held between two splats. -/
theorem clip_of {S : Shape} (a b : Ideal .f32) (v : FVec Ideal S .f32) (j : S.Idx) :
    minimumf (broadcast S a) (maximumf (broadcast S b) v) j = min a (max b (v j)) := rfl

/-- A vector held above a splat. -/
theorem lower_of {S : Shape} (b : Ideal .f32) (v : FVec Ideal S .f32) (j : S.Idx) :
    maximumf (broadcast S b) v j = max b (v j) := rfl

/-- A quotient rounded, plus a vector. -/
theorem shift_of {S : Shape} (x s z : FVec Ideal S .f32) (j : S.Idx) :
    addf (roundeven (divf x s)) z j = Spec.rnd (Ideal.div (x j) (s j)) + z j := rfl

/-- The negated quotient rounded. -/
theorem round_of (m s : FVec Ideal S32x1 .f32) (j : S32x1.Idx) :
    roundeven (divf (subf (broadcast S32x1 (Scalar.ofBits (F := Ideal) .f32 0x00000000#32)) m) s) j = Spec.rnd (Ideal.div (0 - m j) (s j)) := by
  pointwise []

/-- The zero point of each row from its least value and its scale. -/
theorem zr_of (v5 v8) (j : S32x1.Idx) :
    k0_pay10 (F := Ideal) v5 v8 j = min (((255#32).toInt : ℝ) : EReal) (max (((0#32).toInt : ℝ) : EReal)
      (Spec.rnd (Ideal.div (0 - k0_pay8 (F := Ideal) v5 v8 j) (k0_pay9 (F := Ideal) v5 v8 j)))) := by
  unfold k0_pay10
  rw [clip_of, round_of, Ideal.scalar_sitofp_def, Ideal.scalar_sitofp_def]

/-- The zero point of each row. -/
theorem act_zr (v5 v8) (j : S32x1.Idx) :
    k0_pay10 (F := Ideal) v5 v8 j = Spec.zr (fun k : Fin 14336 => v8 (ix2 0 k)) (fun k => v5 (ix2 (j 0) k)) :=
  (zr_of v5 v8 j).trans (congrArg₂ (fun a b : EReal => min (((255#32).toInt : ℝ) : EReal) (max (((0#32).toInt : ℝ) : EReal)
    (Spec.rnd (Ideal.div (0 - a) b)))) (act_mn v5 v8 j) (act_sc v5 v8 j))

/-- A column spread over the rows' entries. -/
theorem bc_col (z : FVec Ideal S32x1 .f32) (j : S32x14336.Idx) :
    broadcastTo S32x14336 z broadcasts_S32x1_S32x14336 j = z (ix2 (j 0) 0) := by
  pointwise []

/-- The codes before they are held to 255, from the smoothed activations, the scales and the zero points. -/
theorem lo_of (v5 v8) (j : S32x14336.Idx) :
    k0_pay11 (F := Ideal) v5 v8 j = max (((0#32).toInt : ℝ) : EReal)
      (Spec.rnd (Ideal.div (k0_pay7 (F := Ideal) v5 v8 j) (k0_pay9 (F := Ideal) v5 v8 (ix2 (j 0) 0)))
        + k0_pay10 (F := Ideal) v5 v8 (ix2 (j 0) 0)) := by
  unfold k0_pay11
  rw [lower_of, shift_of, bc_col, bc_col, Ideal.scalar_sitofp_def]

/-- The codes before they are held to 255. -/
theorem act_lo (v5 v8) (j : S32x14336.Idx) :
    k0_pay11 (F := Ideal) v5 v8 j = max (((0#32).toInt : ℝ) : EReal)
      (Spec.rnd (Ideal.div (Spec.xs (fun k : Fin 14336 => v8 (ix2 0 k)) (fun k => v5 (ix2 (j 0) k)) (j 1))
        (Spec.sc (fun k : Fin 14336 => v8 (ix2 0 k)) (fun k => v5 (ix2 (j 0) k))))
        + Spec.zr (fun k : Fin 14336 => v8 (ix2 0 k)) (fun k => v5 (ix2 (j 0) k))) :=
  (lo_of v5 v8 j).trans (congrArg₂ (fun a b : EReal => max (((0#32).toInt : ℝ) : EReal) (Spec.rnd a + b))
    (congrArg₂ Ideal.div (act_xs v5 v8 j) (act_sc v5 v8 (ix2 (j 0) 0))) (act_zr v5 v8 (ix2 (j 0) 0)))

/-- The codes as words of 8 bits, from the codes before they are held to 255. -/
theorem code_of (v) (j : S32x14336.Idx) :
    k0_pay4 (F := Ideal) v k0_pay12 j = (Ideal.fptosi 32 (min (((255#32).toInt : ℝ) : EReal) (v j))).setWidth 8 := by
  pointwise [k0_pay4, k0_pay3, k0_pay12]
  rfl

/-- The codes as words of 8 bits. -/
theorem act_code (v5 v8) (j : S32x14336.Idx) :
    k0_pay4 (F := Ideal) (k0_pay11 v5 v8) k0_pay12 j
      = (Ideal.fptosi 32 (Spec.cf (fun k : Fin 14336 => v8 (ix2 0 k)) (fun k => v5 (ix2 (j 0) k)) (j 1))).setWidth 8 :=
  (code_of _ j).trans (congrArg (fun a : EReal => (Ideal.fptosi 32 (min (((255#32).toInt : ℝ) : EReal) a)).setWidth 8) (act_lo v5 v8 j))

/-- The centred codes, from the codes before they are held to 255 and the zero points. -/
theorem centred_of (z v) (j : S32x14336.Idx) :
    k0_pay5 (F := Ideal) z v k0_pay12 j = min (((255#32).toInt : ℝ) : EReal) (v j) - z (ix2 (j 0) 0) := by
  pointwise [k0_pay5, k0_pay3, k0_pay12]

/-- The codes less their row's zero point. -/
theorem act_centred (v5 v8) (j : S32x14336.Idx) :
    k0_pay5 (F := Ideal) (k0_pay10 v5 v8) (k0_pay11 v5 v8) k0_pay12 j
      = Spec.cf (fun k : Fin 14336 => v8 (ix2 0 k)) (fun k => v5 (ix2 (j 0) k)) (j 1)
        - Spec.zr (fun k : Fin 14336 => v8 (ix2 0 k)) (fun k => v5 (ix2 (j 0) k)) :=
  (centred_of _ _ j).trans (congrArg₂ (fun a b : EReal => min (((255#32).toInt : ℝ) : EReal) a - b) (act_lo v5 v8 j)
    (act_zr v5 v8 (ix2 (j 0) 0)))

/-- The zero points as words of 32 bits. -/
theorem act_zero (v5 v8) (j : S32x1.Idx) :
    k0_pay6 (F := Ideal) (k0_pay10 v5 v8) j
      = Ideal.fptosi 32 (Spec.zr (fun k : Fin 14336 => v8 (ix2 0 k)) (fun k => v5 (ix2 (j 0) k))) := by
  refine Eq.trans ?_ (congrArg (Ideal.fptosi 32) (act_zr v5 v8 j))
  pointwise [k0_pay6]
  rfl

end Cert.Proof.Payloads
-- ==== Proof.Reads.lean ====
/-
  Hand-written, untrusted. What a load of part of a buffer reads, at an index.
-/
module

public import proofs.«01_k».proof.Proof.Gen.KernelIdeal.Loops
public import Idealize.ShloMosaic.Lib.Pipeline.ValueKit

@[expose] public section

noncomputable section

namespace Cert.Proof.Reads

open Idealize.ShloMosaic Idealize.ShloMosaic.TcCoe
open Cert.KernelIdeal

/-- A load of part of a whole buffer's contents reads, at an index, the contents at any index with the offset coordinates. -/
theorem readAt_unread {sp : Space} {s : Shape} {e : EltTy} {mm : Memref sig .tc sp s e} (h : mm.IsWhole) (X : s.Idx → Elt Ideal e)
    {off off' : Fin s.rank → Nat} (hoff : off = off') (size : Fin s.rank → Nat) (inb) (x : (Rect.unit off size inb).shape.Idx) (i : s.Idx) (hi : ∀ a, (i a : Nat) = off' a + x a) :
    View.readAt (Elt Ideal) mm.view (Rect.unit off size inb).toLoadRect (h.unread X) x = X i := by
  subst hoff
  rw [View.readAt_eq_ld, h.read_unread]
  exact View.ld_unit_apply_of X _ size inb x i hi

/-- The same of contents known by what they read. -/
theorem readAt_of_read {sp : Space} {s : Shape} {e : EltTy} {mm : Memref sig .tc sp s e} {f : BufTy.Contents (Elt Ideal) mm.view.ty}
    {X : s.Idx → Elt Ideal e} (h : mm.view.read (Elt Ideal) f = X)
    {off off' : Fin s.rank → Nat} (hoff : off = off') (size : Fin s.rank → Nat) (inb) (x : (Rect.unit off size inb).shape.Idx) (i : s.Idx) (hi : ∀ a, (i a : Nat) = off' a + x a) :
    View.readAt (Elt Ideal) mm.view (Rect.unit off size inb).toLoadRect f x = X i := by
  subst hoff
  rw [View.readAt_eq_ld, h]
  exact View.ld_unit_apply_of X _ size inb x i hi

/-- The coordinates of a block's index in the array, where the block's offset is known. -/
theorem emb_val {s : Shape} {off off' : Fin s.rank → Nat} (hoff : off = off') (size : Fin s.rank → Nat) (inb)
    (x : (Rect.unit off size inb).shape.Idx) (a : Fin s.rank) : ((Rect.unit off size inb).emb x a).val = off' a + (x a).val := by
  subst hoff
  exact ValueKit.rect_emb_unit_val _ size inb x a

end Cert.Proof.Reads
-- ==== Proof.ActTrips.lean ====
/-
  Hand-written, untrusted. What the two loops of the activation body leave: the pieces of every trip agree with one function of
  the buffer's index each.
-/
module

public import proofs.«01_k».proof.Proof.Payloads
public import proofs.«01_k».proof.Proof.KernelIdealFrame
public import proofs.«01_k».proof.Proof.Reads
public import Idealize.ShloMosaic.Lib.Pipeline.ValueKit

@[expose] public section

set_option maxRecDepth 16384

noncomputable section

namespace Cert.Proof.Act

open Idealize.ShloMosaic Idealize.ShloMosaic.TcCoe Idealize.ShloMosaic.Tactic
open Cert.KernelIdeal Cert.KernelIdeal.Gen
open Cert.Proof.Reads

/-- The smoothing factor of channel `k`, from the activations and the weight's maxima. -/
abbrev gs (x0 : Vec Ideal S256x14336 .bf16) (x1 : Vec Ideal S1x14336 .f32) (k : Fin 14336) : EReal :=
  Spec.smooth (fun i : Fin 256 => x0 (ix2 i k)) (x1 (ix2 0 k))

section

variable (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole) (x0 : Vec Ideal S256x14336 .bf16) (x1 : Vec Ideal S1x14336 .f32)

/-- One trip of the first loop: both of its stores hold smoothing factors. -/
theorem trip1 (k : Fin k0_t1_loop.trips) :
    (∀ p ∈ (tripL_k0_t1 (F := Ideal) Variants.none c none arg0 harg0 arg1 harg1 arg2 harg2 arg3 harg3 arg4 harg4 arg5 harg5 arg6 harg6 arg7 harg7 (harg0.unread x0) (harg1.unread x1) k).1,
      ∀ z, p.2 z = gs x0 x1 (p.1.emb z 1))
    ∧ (∀ p ∈ (tripL_k0_t1 (F := Ideal) Variants.none c none arg0 harg0 arg1 harg1 arg2 harg2 arg3 harg3 arg4 harg4 arg5 harg5 arg6 harg6 arg7 harg7 (harg0.unread x0) (harg1.unread x1) k).2,
      ∀ z, p.2 z = gs x0 x1 (p.1.emb z 0)) := by
  unfold tripL_k0_t1 trip_k0_t1
  dsimp only
  have key : ∀ z : S1x128.Idx, ∀ i : Fin 14336, i.val = 128 * k.val + (z 1).val →
      k0_pay1 (F := Ideal) (View.readAt (Elt Ideal) arg0.view (Rect.unit (s := S256x14336) (k0_off1 k) S256x128.size (k0_off1_inb k)).toLoadRect (harg0.unread x0))
        (View.readAt (Elt Ideal) arg1.view (Rect.unit (s := S1x14336) (k0_off2 k) S1x128.size (k0_off2_inb k)).toLoadRect (harg1.unread x1)) z
        = gs x0 x1 i := by
    intro z i hi
    rw [Payloads.act_s]
    refine congrArg₂ Spec.smooth (funext fun r => ?_) ?_
    · refine readAt_unread harg0 x0 (k0_off1_eq k) _ _ _ _ fun a => ?_
      fin_cases a
      · exact (Nat.zero_add _).symm
      · exact hi
    · refine readAt_unread harg1 x1 (k0_off2_eq k) _ _ _ _ fun a => ?_
      fin_cases a
      · have := (z 0).isLt
        change (0 : Nat) = 0 + (z 0).val
        change (z 0).val < 1 at this
        omega
      · exact hi
  refine ⟨fun p hp => ?_, fun p hp => ?_⟩
  · obtain rfl := List.mem_singleton.mp hp
    intro z
    exact key z _ (emb_val (s := S1x14336) (k0_off2_eq k) S1x128.size (k0_off2_inb k) z 1)
  · obtain rfl := List.mem_singleton.mp hp
    intro z
    exact (Payloads.act_scol _ _ z).trans (key _ _ (emb_val (s := S14336x128) (k0_off3_eq k) S128x128.size (k0_off3_inb k) z 0))

/-- All trips of the first loop. -/
theorem pb1 (k : ℕ) (hk : k ≤ k0_t1_loop.trips) :
    (∀ p ∈ (pb_k0_t1 (F := Ideal) Variants.none c none arg0 harg0 arg1 harg1 arg2 harg2 arg3 harg3 arg4 harg4 arg5 harg5 arg6 harg6 arg7 harg7 (harg0.unread x0) (harg1.unread x1) k).1,
      ∀ z, p.2 z = gs x0 x1 (p.1.emb z 1))
    ∧ (∀ p ∈ (pb_k0_t1 (F := Ideal) Variants.none c none arg0 harg0 arg1 harg1 arg2 harg2 arg3 harg3 arg4 harg4 arg5 harg5 arg6 harg6 arg7 harg7 (harg0.unread x0) (harg1.unread x1) k).2,
      ∀ z, p.2 z = gs x0 x1 (p.1.emb z 0)) := by
  induction k with
  | zero => exact ⟨fun p hp => absurd hp List.not_mem_nil, fun p hp => absurd hp List.not_mem_nil⟩
  | succ k ih =>
    have h := pb_k0_t1_succ (F := Ideal) Variants.none c none arg0 harg0 arg1 harg1 arg2 harg2 arg3 harg3 arg4 harg4 arg5 harg5 arg6 harg6 arg7 harg7 (harg0.unread x0) (harg1.unread x1) ⟨k, hk⟩
    have t := trip1 c arg0 harg0 arg1 harg1 arg2 harg2 arg3 harg3 arg4 harg4 arg5 harg5 arg6 harg6 arg7 harg7 x0 x1 ⟨k, hk⟩
    have i := ih (Nat.le_of_succ_le hk)
    rw [h]
    refine ⟨fun p hp => ?_, fun p hp => ?_⟩
    · rcases List.mem_append.mp hp with hp | hp
      · exact t.1 p hp
      · exact i.1 p hp
    · rcases List.mem_append.mp hp with hp | hp
      · exact t.2 p hp
      · exact i.2 p hp

/-- What the second loop reads in the buffer of the factors. -/
theorem read_s : arg2.view.read (Elt Ideal) (arg2.view.writes (Elt Ideal) arg2.view.junk
      (pb_k0_t1 (F := Ideal) Variants.none c none arg0 harg0 arg1 harg1 arg2 harg2 arg3 harg3 arg4 harg4 arg5 harg5 arg6 harg6 arg7 harg7 (harg0.unread x0) (harg1.unread x1) k0_t1_loop.trips).1)
    = fun j : S1x14336.Idx => gs x0 x1 (j 1) :=
  funext fun y => View.read_writes_apply_of_pieces _ _ (fun j : S1x14336.Idx => gs x0 x1 (j 1)) _ (pb1 c arg0 harg0 arg1 harg1 arg2 harg2 arg3 harg3 arg4 harg4 arg5 harg5 arg6 harg6 arg7 harg7 x0 x1 _ le_rfl).1 y
    (cover_k0_t1_2 (F := Ideal) Variants.none c none arg0 harg0 arg1 harg1 arg2 harg2 arg3 harg3 arg4 harg4 arg5 harg5 arg6 harg6 arg7 harg7 (harg0.unread x0) (harg1.unread x1) y)

end

section

variable (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole) (x0 : Vec Ideal S256x14336 .bf16) (s : Fin 14336 → EReal) (f2 : BufTy.Contents (Elt Ideal) arg2.view.ty)

/-- A function of three arguments at equal arguments. -/
theorem congr3 {α β γ δ : Type} (f : α → β → γ → δ) {a a' : α} {b b' : β} {g g' : γ} (ha : a = a') (hb : b = b') (hg : g = g') :
    f a b g = f a' b' g' := by
  subst ha hb hg
  rfl

/-- One trip of the second loop, where the buffer of the factors reads `s`: codes, centred codes, scales and zero points. -/
theorem trip2 (h2 : arg2.view.read (Elt Ideal) f2 = fun j : S1x14336.Idx => s (j 1)) (k : Fin k0_t2_loop.trips) :
    (∀ p ∈ (tripL_k0_t2 (F := Ideal) Variants.none c none arg0 harg0 arg1 harg1 arg2 harg2 arg3 harg3 arg4 harg4 arg5 harg5 arg6 harg6 arg7 harg7 (harg0.unread x0) f2 k).1,
      ∀ z, p.2 z = (Ideal.fptosi 32 (Spec.cf s (fun l => x0 (ix2 (p.1.emb z 0) l)) (p.1.emb z 1))).setWidth 8)
    ∧ (∀ p ∈ (tripL_k0_t2 (F := Ideal) Variants.none c none arg0 harg0 arg1 harg1 arg2 harg2 arg3 harg3 arg4 harg4 arg5 harg5 arg6 harg6 arg7 harg7 (harg0.unread x0) f2 k).2.1,
      ∀ z, p.2 z = Spec.cf s (fun l => x0 (ix2 (p.1.emb z 0) l)) (p.1.emb z 1) - Spec.zr s (fun l => x0 (ix2 (p.1.emb z 0) l)))
    ∧ (∀ p ∈ (tripL_k0_t2 (F := Ideal) Variants.none c none arg0 harg0 arg1 harg1 arg2 harg2 arg3 harg3 arg4 harg4 arg5 harg5 arg6 harg6 arg7 harg7 (harg0.unread x0) f2 k).2.2.1,
      ∀ z, p.2 z = Spec.sc s (fun l => x0 (ix2 (p.1.emb z 0) l)))
    ∧ (∀ p ∈ (tripL_k0_t2 (F := Ideal) Variants.none c none arg0 harg0 arg1 harg1 arg2 harg2 arg3 harg3 arg4 harg4 arg5 harg5 arg6 harg6 arg7 harg7 (harg0.unread x0) f2 k).2.2.2,
      ∀ z, p.2 z = Ideal.fptosi 32 (Spec.zr s (fun l => x0 (ix2 (p.1.emb z 0) l)))) := by
  unfold tripL_k0_t2 trip_k0_t2
  dsimp only
  have hs : ∀ inb, (fun l : Fin 14336 => View.readAt (Elt Ideal) arg2.view (Rect.unit (s := S1x14336) ![0, 0] S1x14336.size inb).toLoadRect f2 (ix2 0 l)) = s := by
    intro inb
    funext l
    refine readAt_of_read h2 rfl _ _ _ (ix2 0 l) fun a => ?_
    fin_cases a <;> exact (Nat.zero_add _).symm
  have hr : ∀ r : Fin 32, ∀ i : Fin 256, i.val = 32 * k.val + r.val →
      (fun l : Fin 14336 => View.readAt (Elt Ideal) arg0.view (Rect.unit (s := S256x14336) (k0_off4 k) S32x14336.size (k0_off4_inb k)).toLoadRect (harg0.unread x0) (ix2 r l))
        = fun l => x0 (ix2 i l) := by
    intro r i hi
    funext l
    refine readAt_unread harg0 x0 (k0_off4_eq k) _ _ _ _ fun a => ?_
    fin_cases a
    · exact hi
    · exact (Nat.zero_add _).symm
  refine ⟨fun p hp => ?_, fun p hp => ?_, fun p hp => ?_, fun p hp => ?_⟩
  · obtain rfl := List.mem_singleton.mp hp
    intro z
    refine (Payloads.act_code _ _ z).trans (congr3 (fun s row l => (Ideal.fptosi 32 (Spec.cf s row l)).setWidth 8) (hs _) (hr _ _ (emb_val (s := S256x14336) (k0_off4_eq k) S32x14336.size (k0_off4_inb k) z 0)) (Fin.ext ?_))
    exact ((emb_val (s := S256x14336) (k0_off4_eq k) S32x14336.size (k0_off4_inb k) z 1).trans (Nat.zero_add _)).symm
  · obtain rfl := List.mem_singleton.mp hp
    intro z
    refine (Payloads.act_centred _ _ z).trans (congr3 (fun s row l => Spec.cf s row l - Spec.zr s row) (hs _) (hr _ _ (emb_val (s := S256x14336) (k0_off4_eq k) S32x14336.size (k0_off4_inb k) z 0)) (Fin.ext ?_))
    exact ((emb_val (s := S256x14336) (k0_off4_eq k) S32x14336.size (k0_off4_inb k) z 1).trans (Nat.zero_add _)).symm
  · obtain rfl := List.mem_singleton.mp hp
    intro z
    unfold trip_k0_t2.sl.r
    dsimp only
    refine (Payloads.act_sc _ _ z).trans ?_
    have e := hr (z 0) _ (emb_val (s := S256x1) (k0_off5_eq k) S32x1.size (k0_off5_inb k) z 0)
    have e' := congrArg₂ (fun s row : Fin 14336 → EReal => Spec.sc s row) (hs inb_S1x14336_S1x14336_0_0) e
    exact e'
  · obtain rfl := List.mem_singleton.mp hp
    intro z
    exact (Payloads.act_zero _ _ z).trans (congrArg₂ (fun s row : Fin 14336 → EReal => Ideal.fptosi 32 (Spec.zr s row)) (hs _) (hr _ _ (emb_val (s := S256x1) (k0_off5_eq k) S32x1.size (k0_off5_inb k) z 0)))

/-- All trips of the second loop. -/
theorem pb2 (h2 : arg2.view.read (Elt Ideal) f2 = fun j : S1x14336.Idx => s (j 1)) (k : ℕ) (hk : k ≤ k0_t2_loop.trips) :
    (∀ p ∈ (pb_k0_t2 (F := Ideal) Variants.none c none arg0 harg0 arg1 harg1 arg2 harg2 arg3 harg3 arg4 harg4 arg5 harg5 arg6 harg6 arg7 harg7 (harg0.unread x0) f2 k).1,
      ∀ z, p.2 z = (Ideal.fptosi 32 (Spec.cf s (fun l => x0 (ix2 (p.1.emb z 0) l)) (p.1.emb z 1))).setWidth 8)
    ∧ (∀ p ∈ (pb_k0_t2 (F := Ideal) Variants.none c none arg0 harg0 arg1 harg1 arg2 harg2 arg3 harg3 arg4 harg4 arg5 harg5 arg6 harg6 arg7 harg7 (harg0.unread x0) f2 k).2.1,
      ∀ z, p.2 z = Spec.cf s (fun l => x0 (ix2 (p.1.emb z 0) l)) (p.1.emb z 1) - Spec.zr s (fun l => x0 (ix2 (p.1.emb z 0) l)))
    ∧ (∀ p ∈ (pb_k0_t2 (F := Ideal) Variants.none c none arg0 harg0 arg1 harg1 arg2 harg2 arg3 harg3 arg4 harg4 arg5 harg5 arg6 harg6 arg7 harg7 (harg0.unread x0) f2 k).2.2.1,
      ∀ z, p.2 z = Spec.sc s (fun l => x0 (ix2 (p.1.emb z 0) l)))
    ∧ (∀ p ∈ (pb_k0_t2 (F := Ideal) Variants.none c none arg0 harg0 arg1 harg1 arg2 harg2 arg3 harg3 arg4 harg4 arg5 harg5 arg6 harg6 arg7 harg7 (harg0.unread x0) f2 k).2.2.2,
      ∀ z, p.2 z = Ideal.fptosi 32 (Spec.zr s (fun l => x0 (ix2 (p.1.emb z 0) l)))) := by
  induction k with
  | zero =>
    exact ⟨fun p hp => absurd hp List.not_mem_nil, fun p hp => absurd hp List.not_mem_nil,
      fun p hp => absurd hp List.not_mem_nil, fun p hp => absurd hp List.not_mem_nil⟩
  | succ k ih =>
    have h := pb_k0_t2_succ (F := Ideal) Variants.none c none arg0 harg0 arg1 harg1 arg2 harg2 arg3 harg3 arg4 harg4 arg5 harg5 arg6 harg6 arg7 harg7 (harg0.unread x0) f2 ⟨k, hk⟩
    have t := trip2 c arg0 harg0 arg1 harg1 arg2 harg2 arg3 harg3 arg4 harg4 arg5 harg5 arg6 harg6 arg7 harg7 x0 s f2 h2 ⟨k, hk⟩
    have i := ih (Nat.le_of_succ_le hk)
    rw [h]
    refine ⟨fun p hp => ?_, fun p hp => ?_, fun p hp => ?_, fun p hp => ?_⟩
    · rcases List.mem_append.mp hp with hp | hp
      · exact t.1 p hp
      · exact i.1 p hp
    · rcases List.mem_append.mp hp with hp | hp
      · exact t.2.1 p hp
      · exact i.2.1 p hp
    · rcases List.mem_append.mp hp with hp | hp
      · exact t.2.2.1 p hp
      · exact i.2.2.1 p hp
    · rcases List.mem_append.mp hp with hp | hp
      · exact t.2.2.2 p hp
      · exact i.2.2.2 p hp

end

end Cert.Proof.Act
-- ==== Proof.ActOut.lean ====
/-
  Hand-written, untrusted. What the activation body leaves in its six output buffers, from its inputs.
-/
module

public import proofs.«01_k».proof.Proof.ActTrips

@[expose] public section

set_option maxRecDepth 16384

noncomputable section

namespace Cert.Proof.Act

open Idealize.ShloMosaic Idealize.ShloMosaic.TcCoe Idealize.ShloMosaic.Tactic
open Cert.KernelIdeal Cert.KernelIdeal.Gen
open Cert.Proof.Reads

variable (c : Dev nD) (arg0 : Memref sig .tc .vmem S256x14336 .bf16) (harg0 : arg0.IsWhole) (arg1 : Memref sig .tc .vmem S1x14336 .f32) (harg1 : arg1.IsWhole) (arg2 : Memref sig .tc .vmem S1x14336 .f32) (harg2 : arg2.IsWhole) (arg3 : Memref sig .tc .vmem S14336x128 .f32) (harg3 : arg3.IsWhole) (arg4 : Memref sig .tc .vmem S256x14336 .i8) (harg4 : arg4.IsWhole) (arg5 : Memref sig .tc .vmem S256x14336 .bf16) (harg5 : arg5.IsWhole) (arg6 : Memref sig .tc .vmem S256x1 .f32) (harg6 : arg6.IsWhole) (arg7 : Memref sig .tc .vmem S256x1 .i32) (harg7 : arg7.IsWhole) (x0 : Vec Ideal S256x14336 .bf16) (x1 : Vec Ideal S1x14336 .f32)

/-- The smoothing factors, as a row. -/
theorem out_s (y : S1x14336.Idx) : out0_A_2 (F := Ideal) c arg0 harg0 arg1 harg1 arg2 harg2 arg3 harg3 arg4 harg4 arg5 harg5 arg6 harg6 arg7 harg7 x0 x1 y = gs x0 x1 (y 1) := by
  unfold out0_A_2
  refine View.read_writes_apply_of_pieces _ _ (fun y : S1x14336.Idx => gs x0 x1 (y 1)) _ ?_ y (cover0_A_2 (F := Ideal) c arg0 harg0 arg1 harg1 arg2 harg2 arg3 harg3 arg4 harg4 arg5 harg5 arg6 harg6 arg7 harg7 x0 x1 y)
  unfold kernelRun0_A
  dsimp only
  sl_unfold_words
  exact (pb1 c arg0 harg0 arg1 harg1 arg2 harg2 arg3 harg3 arg4 harg4 arg5 harg5 arg6 harg6 arg7 harg7 x0 x1 _ le_rfl).1

/-- The smoothing factors, as a column repeated over the lanes. -/
theorem out_scol (y : S14336x128.Idx) : out0_A_3 (F := Ideal) c arg0 harg0 arg1 harg1 arg2 harg2 arg3 harg3 arg4 harg4 arg5 harg5 arg6 harg6 arg7 harg7 x0 x1 y = gs x0 x1 (y 0) := by
  unfold out0_A_3
  refine View.read_writes_apply_of_pieces _ _ (fun y : S14336x128.Idx => gs x0 x1 (y 0)) _ ?_ y (cover0_A_3 (F := Ideal) c arg0 harg0 arg1 harg1 arg2 harg2 arg3 harg3 arg4 harg4 arg5 harg5 arg6 harg6 arg7 harg7 x0 x1 y)
  unfold kernelRun0_A
  dsimp only
  sl_unfold_words
  exact (pb1 c arg0 harg0 arg1 harg1 arg2 harg2 arg3 harg3 arg4 harg4 arg5 harg5 arg6 harg6 arg7 harg7 x0 x1 _ le_rfl).2

/-- The activation codes. -/
theorem out_code (y : S256x14336.Idx) : out0_A_4 (F := Ideal) c arg0 harg0 arg1 harg1 arg2 harg2 arg3 harg3 arg4 harg4 arg5 harg5 arg6 harg6 arg7 harg7 x0 x1 y = (Ideal.fptosi 32 (Spec.cf (gs x0 x1) (fun l => x0 (ix2 (y 0) l)) (y 1))).setWidth 8 := by
  unfold out0_A_4
  refine View.read_writes_apply_of_pieces _ _ (fun y : S256x14336.Idx => (Ideal.fptosi 32 (Spec.cf (gs x0 x1) (fun l => x0 (ix2 (y 0) l)) (y 1))).setWidth 8) _ ?_ y (cover0_A_4 (F := Ideal) c arg0 harg0 arg1 harg1 arg2 harg2 arg3 harg3 arg4 harg4 arg5 harg5 arg6 harg6 arg7 harg7 x0 x1 y)
  unfold kernelRun0_A
  dsimp only
  sl_unfold_words
  exact (pb2 c arg0 harg0 arg1 harg1 arg2 harg2 arg3 harg3 arg4 harg4 arg5 harg5 arg6 harg6 arg7 harg7 x0 (gs x0 x1) _ (read_s c arg0 harg0 arg1 harg1 arg2 harg2 arg3 harg3 arg4 harg4 arg5 harg5 arg6 harg6 arg7 harg7 x0 x1) _ le_rfl).1

/-- The activation codes less their row's zero point. -/
theorem out_centred (y : S256x14336.Idx) : out0_A_5 (F := Ideal) c arg0 harg0 arg1 harg1 arg2 harg2 arg3 harg3 arg4 harg4 arg5 harg5 arg6 harg6 arg7 harg7 x0 x1 y = Spec.cf (gs x0 x1) (fun l => x0 (ix2 (y 0) l)) (y 1) - Spec.zr (gs x0 x1) (fun l => x0 (ix2 (y 0) l)) := by
  unfold out0_A_5
  refine View.read_writes_apply_of_pieces _ _ (fun y : S256x14336.Idx => Spec.cf (gs x0 x1) (fun l => x0 (ix2 (y 0) l)) (y 1) - Spec.zr (gs x0 x1) (fun l => x0 (ix2 (y 0) l))) _ ?_ y (cover0_A_5 (F := Ideal) c arg0 harg0 arg1 harg1 arg2 harg2 arg3 harg3 arg4 harg4 arg5 harg5 arg6 harg6 arg7 harg7 x0 x1 y)
  unfold kernelRun0_A
  dsimp only
  sl_unfold_words
  exact (pb2 c arg0 harg0 arg1 harg1 arg2 harg2 arg3 harg3 arg4 harg4 arg5 harg5 arg6 harg6 arg7 harg7 x0 (gs x0 x1) _ (read_s c arg0 harg0 arg1 harg1 arg2 harg2 arg3 harg3 arg4 harg4 arg5 harg5 arg6 harg6 arg7 harg7 x0 x1) _ le_rfl).2.1

/-- The scales of the rows. -/
theorem out_sc (y : S256x1.Idx) : out0_A_6 (F := Ideal) c arg0 harg0 arg1 harg1 arg2 harg2 arg3 harg3 arg4 harg4 arg5 harg5 arg6 harg6 arg7 harg7 x0 x1 y = Spec.sc (gs x0 x1) (fun l => x0 (ix2 (y 0) l)) := by
  unfold out0_A_6
  refine View.read_writes_apply_of_pieces _ _ (fun y : S256x1.Idx => Spec.sc (gs x0 x1) (fun l => x0 (ix2 (y 0) l))) _ ?_ y (cover0_A_6 (F := Ideal) c arg0 harg0 arg1 harg1 arg2 harg2 arg3 harg3 arg4 harg4 arg5 harg5 arg6 harg6 arg7 harg7 x0 x1 y)
  unfold kernelRun0_A
  dsimp only
  sl_unfold_words
  exact (pb2 c arg0 harg0 arg1 harg1 arg2 harg2 arg3 harg3 arg4 harg4 arg5 harg5 arg6 harg6 arg7 harg7 x0 (gs x0 x1) _ (read_s c arg0 harg0 arg1 harg1 arg2 harg2 arg3 harg3 arg4 harg4 arg5 harg5 arg6 harg6 arg7 harg7 x0 x1) _ le_rfl).2.2.1

/-- The zero points of the rows. -/
theorem out_zero (y : S256x1.Idx) : out0_A_7 (F := Ideal) c arg0 harg0 arg1 harg1 arg2 harg2 arg3 harg3 arg4 harg4 arg5 harg5 arg6 harg6 arg7 harg7 x0 x1 y = Ideal.fptosi 32 (Spec.zr (gs x0 x1) (fun l => x0 (ix2 (y 0) l))) := by
  unfold out0_A_7
  refine View.read_writes_apply_of_pieces _ _ (fun y : S256x1.Idx => Ideal.fptosi 32 (Spec.zr (gs x0 x1) (fun l => x0 (ix2 (y 0) l)))) _ ?_ y (cover0_A_7 (F := Ideal) c arg0 harg0 arg1 harg1 arg2 harg2 arg3 harg3 arg4 harg4 arg5 harg5 arg6 harg6 arg7 harg7 x0 x1 y)
  unfold kernelRun0_A
  dsimp only
  sl_unfold_words
  exact (pb2 c arg0 harg0 arg1 harg1 arg2 harg2 arg3 harg3 arg4 harg4 arg5 harg5 arg6 harg6 arg7 harg7 x0 (gs x0 x1) _ (read_s c arg0 harg0 arg1 harg1 arg2 harg2 arg3 harg3 arg4 harg4 arg5 harg5 arg6 harg6 arg7 harg7 x0 x1) _ le_rfl).2.2.2

end Cert.Proof.Act
-- ==== Proof.ActArrays.lean ====
/-
  Hand-written, untrusted. What the activation region leaves in its six output arrays, from its two input arrays.
-/
module

public import proofs.«01_k».proof.Proof.ActOut
public import Idealize.ShloMosaic.Lib.Pipeline.ValueKit

@[expose] public section

set_option maxRecDepth 16384

noncomputable section

namespace Cert.Proof.Act

open Idealize.ShloMosaic Idealize.ShloMosaic.TcCoe Idealize.ShloMosaic.Tactic
open Idealize.ShloMosaic.Pipeline (Dat)
open Cert.KernelIdeal Cert.KernelIdeal.Gen

variable (V : (c : Dev nD) → (b : Ref sig .tc) → Buf (Elt Ideal) ((c : Thread nD τ).loc b)) (c : Dev nD)

/-- Every window's block is the first one. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The block of the first input is the array. -/
theorem iblk_x (t : Fin cfg0.N) : iblk0 V c 0 t = (V c main_v0 : Vec Ideal S256x14336 .bf16) := by
  blk_ext! [iblk0, idx t]

/-- The block of the second input is the array. -/
theorem iblk_w (t : Fin cfg0.N) : iblk0 V c 1 t = (V c main_v1 : Vec Ideal S1x14336 .f32) := by
  blk_ext! [iblk0, idx t]

/-- A function of four arguments at equal arguments. -/
theorem congr4 {α β γ δ ε : Type} (f : α → β → γ → δ → ε) {a a' : α} {b b' : β} {g g' : γ} {d d' : δ} (ha : a = a') (hb : b = b') (hg : g = g')
    (hd : d = d') : f a b g d = f a' b' g' d' := by
  subst ha hb hg hd
  rfl

/-- The smoothing factors, as a row. -/
theorem arr_s : (dat0 V c).arrAt 2 cfg0.N = fun j : S1x14336.Idx => gs (V c main_v0) (V c main_v1) (j 1) := by
  refine (dat0 V c).arrAt_eq_of_covers 2 _ (by decide +kernel) fun t hf y => ?_
  blk_simp
  rw [after0_2]
  unfold outsAt0
  dsimp only
  refine (out_s c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ y).trans (congr3 (fun a b (k : Fin 14336) => gs a b k) (iblk_x V c t) (iblk_w V c t) (Fin.ext ?_))
  all_goals
    blk_simp [idx t]

/-- The smoothing factors, as a column repeated over the lanes. -/
theorem arr_scol : (dat0 V c).arrAt 3 cfg0.N = fun j : S14336x128.Idx => gs (V c main_v0) (V c main_v1) (j 0) := by
  refine (dat0 V c).arrAt_eq_of_covers 3 _ (by decide +kernel) fun t hf y => ?_
  blk_simp
  rw [after0_3]
  unfold outsAt0
  dsimp only
  refine (out_scol c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ y).trans (congr3 (fun a b (k : Fin 14336) => gs a b k) (iblk_x V c t) (iblk_w V c t) (Fin.ext ?_))
  all_goals
    blk_simp [idx t]

/-- The activation codes. -/
theorem arr_code : (dat0 V c).arrAt 4 cfg0.N = fun j : S256x14336.Idx => (Ideal.fptosi 32 (Spec.cf (gs (V c main_v0) (V c main_v1)) (fun l => (V c main_v0 : Vec Ideal S256x14336 .bf16) (ix2 (j 0) l)) (j 1))).setWidth 8 := by
  refine (dat0 V c).arrAt_eq_of_covers 4 _ (by decide +kernel) fun t hf y => ?_
  blk_simp
  rw [after0_4]
  unfold outsAt0
  dsimp only
  refine (out_code c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ y).trans (congr4 (fun a b (i : Fin 256) (k : Fin 14336) => (Ideal.fptosi 32 (Spec.cf (gs a b) (fun l => a (ix2 i l)) k)).setWidth 8) (iblk_x V c t) (iblk_w V c t) (Fin.ext ?_) (Fin.ext ?_))
  all_goals
    blk_simp [idx t]

/-- The activation codes less their row's zero point. -/
theorem arr_centred : (dat0 V c).arrAt 5 cfg0.N = fun j : S256x14336.Idx => Spec.cf (gs (V c main_v0) (V c main_v1)) (fun l => (V c main_v0 : Vec Ideal S256x14336 .bf16) (ix2 (j 0) l)) (j 1) - Spec.zr (gs (V c main_v0) (V c main_v1)) (fun l => (V c main_v0 : Vec Ideal S256x14336 .bf16) (ix2 (j 0) l)) := by
  refine (dat0 V c).arrAt_eq_of_covers 5 _ (by decide +kernel) fun t hf y => ?_
  blk_simp
  rw [after0_5]
  unfold outsAt0
  dsimp only
  refine (out_centred c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ y).trans (congr4 (fun a b (i : Fin 256) (k : Fin 14336) => Spec.cf (gs a b) (fun l => a (ix2 i l)) k - Spec.zr (gs a b) (fun l => a (ix2 i l))) (iblk_x V c t) (iblk_w V c t) (Fin.ext ?_) (Fin.ext ?_))
  all_goals
    blk_simp [idx t]

/-- The scales of the rows. -/
theorem arr_sc : (dat0 V c).arrAt 6 cfg0.N = fun j : S256x1.Idx => Spec.sc (gs (V c main_v0) (V c main_v1)) (fun l => (V c main_v0 : Vec Ideal S256x14336 .bf16) (ix2 (j 0) l)) := by
  refine (dat0 V c).arrAt_eq_of_covers 6 _ (by decide +kernel) fun t hf y => ?_
  blk_simp
  rw [after0_6]
  unfold outsAt0
  dsimp only
  refine (out_sc c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ y).trans (congr3 (fun a b (i : Fin 256) => Spec.sc (gs a b) (fun l => a (ix2 i l))) (iblk_x V c t) (iblk_w V c t) (Fin.ext ?_))
  all_goals
    blk_simp [idx t]

/-- The zero points of the rows. -/
theorem arr_zero : (dat0 V c).arrAt 7 cfg0.N = fun j : S256x1.Idx => Ideal.fptosi 32 (Spec.zr (gs (V c main_v0) (V c main_v1)) (fun l => (V c main_v0 : Vec Ideal S256x14336 .bf16) (ix2 (j 0) l))) := by
  refine (dat0 V c).arrAt_eq_of_covers 7 _ (by decide +kernel) fun t hf y => ?_
  blk_simp
  rw [after0_7]
  unfold outsAt0
  dsimp only
  refine (out_zero c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ y).trans (congr3 (fun a b (i : Fin 256) => Ideal.fptosi 32 (Spec.zr (gs a b) (fun l => a (ix2 i l)))) (iblk_x V c t) (iblk_w V c t) (Fin.ext ?_))
  all_goals
    blk_simp [idx t]

end Cert.Proof.Act
-- ==== Proof.WPayloads.lean ====
/-
  Hand-written, untrusted. What each value the weight body stores is at an index, at the extended reals, where the block of
  smoothing factors holds one factor along each row.
-/
module

public import proofs.«01_k».proof.Proof.Spec
public import proofs.«01_k».proof.Proof.Gen.KernelIdeal.Loops
public import Idealize.ShloMosaic.Lib.Pointwise

@[expose] public section

set_option maxRecDepth 16384

noncomputable section

namespace Cert.Proof.Payloads

open Idealize.ShloMosaic Idealize.ShloMosaic.TcCoe Idealize.ShloMosaic.Tactic
open Cert.KernelIdeal Cert.KernelIdeal.Gen

/-- One block of 512 rows folded into the eight running maxima of a column: row `8 x + r` into the maximum `r`. -/
theorem w_max (v1 v2 v3) (s : Fin 512 → EReal) (hs : ∀ r c, v2 (ix2 r c) = s r) (j : S8x256.Idx) :
    k1_pay2 (F := Ideal) v1 v2 v3 j = max (v1 j) (Spec.amax fun x : Fin 64 =>
      v3 (ix2 ⟨x.val * 8 + (j 0).val, by have := x.isLt; have := (j 0).isLt; simp at this; omega⟩ (j 1))
        * s ⟨x.val * 8 + (j 0).val, by have := x.isLt; have := (j 0).isLt; simp at this; omega⟩) := by
  pointwise [k1_pay2]
  refine congrArg (max (v1 j)) (congrArg (fun f => Finset.fold max (Ideal.ofBits .f32 4286578688#32) f Finset.univ) (funext fun x => ?_))
  idx_vars j
  by_cases h : j1.val < 128
  · simp only [dif_pos h, hs]; rfl
  · simp only [dif_neg h, hs]; rfl

/-- The scale of each column, from its eight maxima. -/
theorem w_scale (v1) (j : S1x256.Idx) :
    k1_pay3 (F := Ideal) v1 j = if Finset.fold max (Ideal.ofBits .f32 4286578688#32) (fun x : Fin 8 => v1 (ix2 x (j 1))) Finset.univ = 0 then 1
      else Ideal.div (Finset.fold max (Ideal.ofBits .f32 4286578688#32) (fun x : Fin 8 => v1 (ix2 x (j 1))) Finset.univ) (Ideal.ofBits .f32 1123942400#32) := by
  pointwise [k1_pay3]

/-- The codes of a block of 512 rows. -/
theorem w_code (v1 v2 v3) (s : Fin 512 → EReal) (hs : ∀ r c, v2 (ix2 r c) = s r) (j : S512x256.Idx) :
    k1_pay5 (F := Ideal) v1 v2 v3 j = Ideal.fptosi 8 (min (((127#32).toInt : ℝ) : EReal) (max (((4294967169#32).toInt : ℝ) : EReal)
      (Spec.rnd (Ideal.div (v3 j * s (j 0)) (k1_pay3 v1 (ix2 0 (j 1))))))) := by
  pointwise [k1_pay5]
  idx_vars j
  by_cases h : j1.val < 128
  · simp only [dif_pos h, hs]; rfl
  · simp only [dif_neg h, hs]; rfl

/-- The accumulator after a block of 512 rows. -/
theorem w_acc (v1 v2 v3 v4 v5) (j : S256x256.Idx) :
    k1_pay6 (F := Ideal) v1 v2 v3 v4 v5 j
      = v4 j + ∑ x : Fin 512, v5 (ix2 (j 0) x) * (((k1_pay5 (F := Ideal) v1 v2 v3 (ix2 x (j 1))).toInt : ℝ) : EReal) := by
  pointwise [k1_pay6]
  rfl

/-- The entries of the product, from the accumulator. -/
theorem w_y (v1 v2 v3) (j : S256x256.Idx) :
    k1_pay7 (F := Ideal) v1 v2 v3 j = v2 j * v3 (ix2 (j 0) 0) * k1_pay3 v1 (ix2 0 (j 1)) := by
  pointwise [k1_pay7]

/-- The eight maxima start at zero. -/
theorem w_max0 (j : S8x256.Idx) : k1_pay1 (F := Ideal) j = 0 := by
  pointwise [k1_pay1]

/-- The accumulator starts at zero. -/
theorem w_acc0 (j : S256x256.Idx) : k1_pay4 (F := Ideal) j = 0 := by
  pointwise [k1_pay4]

end Cert.Proof.Payloads
-- ==== Proof.Scalars.lean ====
/-
  Hand-written, untrusted. Facts about single extended reals and words that the value claim rests on: the square root as the
  power 1/2, a rounded and clipped value as an integer, and the two conversions of such a value to a word of a few bits.
-/
module

public import Idealize.ShloMosaic.Lib.Pointwise
public import Idealize.ShloMosaic.Lib.IdealHost

@[expose] public section

noncomputable section

namespace Cert.Proof.Scalars

open Idealize.ShloMosaic

/-- The f32 pattern of one half. -/
theorem ofBits_half : Ideal.ofBits .f32 0x3F000000#32 = ((1 / 2 : ℝ) : EReal) := by
  simp [Ideal.ofBits, Ideal.ieee, -EReal.coe_mul]; norm_num

/-- The f32 pattern of minus infinity. -/
theorem ofBits_bot : Ideal.ofBits .f32 0xFF800000#32 = ⊥ := by
  simp [Ideal.ofBits, Ideal.ieee]

/-- The floor under which no maximum of absolute values may fall is not negative. -/
theorem ofBits_floor_nonneg : 0 ≤ Ideal.ofBits .f32 0x3727C5AC#32 := by
  simp [Ideal.ofBits, Ideal.ieee, -EReal.coe_mul]

/-- The power 1/2 of a value that is not negative is its square root. -/
theorem pow_half {x : EReal} (hx : 0 ≤ x) : Ideal.pow x ((1 / 2 : ℝ) : EReal) = Ideal.sqrt x := by
  induction x using EReal.rec with
  | bot => simp at hx
  | top =>
    rw [Ideal.pow_top, Ideal.sqrt_top, if_pos]
    exact_mod_cast (by norm_num : (0 : ℝ) < 1 / 2)
  | coe r =>
    have hr : 0 ≤ r := by exact_mod_cast hx
    rw [Ideal.pow_coe_coe, Ideal.sqrt_coe, if_neg (not_lt.mpr hr), Real.sqrt_eq_rpow]
    rfl

/-- An extended real that is an infinity or an integer. -/
def IsInt (x : EReal) : Prop := x = ⊥ ∨ x = ⊤ ∨ ∃ n : ℤ, x = ((n : ℝ) : EReal)

/-- A value rounded to the integers is an infinity or an integer. -/
theorem isInt_round (f : ℝ → ℤ) (x : EReal) : IsInt (Ideal.liftRound f x) := by
  induction x using EReal.rec with
  | bot => exact .inl rfl
  | top => exact .inr (.inl rfl)
  | coe r => exact .inr (.inr ⟨f r, rfl⟩)

/-- An integer added to an infinity or an integer gives an infinity or an integer. -/
theorem IsInt.add_int {x : EReal} (h : IsInt x) (n : ℤ) : IsInt (x + ((n : ℝ) : EReal)) := by
  rcases h with rfl | rfl | ⟨k, rfl⟩
  · exact .inl (EReal.bot_add _)
  · exact .inr (.inl (EReal.top_add_coe _))
  · exact .inr (.inr ⟨k + n, by push_cast; rfl⟩)

/-- Clipped between two integers, an infinity or an integer is an integer between them. -/
theorem IsInt.clip {x : EReal} (h : IsInt x) {lo hi : ℤ} (hl : lo ≤ hi) :
    ∃ n : ℤ, lo ≤ n ∧ n ≤ hi ∧ min ((hi : ℝ) : EReal) (max ((lo : ℝ) : EReal) x) = ((n : ℝ) : EReal) := by
  have hl' : ((lo : ℝ) : EReal) ≤ ((hi : ℝ) : EReal) := by exact_mod_cast hl
  rcases h with rfl | rfl | ⟨k, rfl⟩
  · exact ⟨lo, le_rfl, hl, by rw [max_eq_left bot_le, min_eq_right hl']⟩
  · exact ⟨hi, hl, le_rfl, by rw [max_eq_right le_top, min_eq_left le_top]⟩
  · refine ⟨min hi (max lo k), le_min hl (le_max_left _ _), min_le_left _ _, ?_⟩
    rcases le_total lo k with h1 | h1
    · have h1' : ((lo : ℝ) : EReal) ≤ ((k : ℝ) : EReal) := by exact_mod_cast h1
      rw [max_eq_right h1, max_eq_right h1']
      rcases le_total hi k with h2 | h2
      · have h2' : ((hi : ℝ) : EReal) ≤ ((k : ℝ) : EReal) := by exact_mod_cast h2
        rw [min_eq_left h2, min_eq_left h2']
      · have h2' : ((k : ℝ) : EReal) ≤ ((hi : ℝ) : EReal) := by exact_mod_cast h2
        rw [min_eq_right h2, min_eq_right h2']
    · have h1' : ((k : ℝ) : EReal) ≤ ((lo : ℝ) : EReal) := by exact_mod_cast h1
      rw [max_eq_left h1, max_eq_left h1', min_eq_right hl, min_eq_right hl']

/-- Toward zero and within bounds that hold it, an integer is itself. -/
theorem toIntClamped_int (lo hi n : ℤ) (h1 : lo ≤ n) (h2 : n ≤ hi) :
    Ideal.toIntClamped lo hi ((n : ℝ) : EReal) = n := by
  rw [Ideal.toIntClamped_coe]
  have : (if 0 ≤ (n : ℝ) then ⌊(n : ℝ)⌋ else ⌈(n : ℝ)⌉) = n := by
    split <;> simp
  rw [this, min_eq_right h2, max_eq_right h1]

/-- An integer that a signed 8-bit word holds, converted to one and read back. -/
theorem fptosi8 {n : ℤ} (h1 : -128 ≤ n) (h2 : n ≤ 127) : (Ideal.fptosi 8 ((n : ℝ) : EReal)).toInt = n := by
  have e : Ideal.fptosi 8 ((n : ℝ) : EReal) = BitVec.ofInt 8 n := by
    unfold Ideal.fptosi
    rw [toIntClamped_int _ _ _ (by norm_num; omega) (by norm_num; omega)]
  rw [e, BitVec.toInt_ofInt]
  exact Int.bmod_eq_of_le (by norm_num; omega) (by norm_num; omega)

/-- An integer of [0, 255] as a signed 32-bit word. -/
theorem fptosi32 {n : ℤ} (h1 : 0 ≤ n) (h2 : n ≤ 255) : Ideal.fptosi 32 ((n : ℝ) : EReal) = BitVec.ofInt 32 n := by
  unfold Ideal.fptosi
  rw [toIntClamped_int _ _ _ (by norm_num; omega) (by norm_num; omega)]

/-- An integer of [0, 255] converted to a signed 32-bit word and read back. -/
theorem fptosi32_toInt {n : ℤ} (h1 : 0 ≤ n) (h2 : n ≤ 255) : (Ideal.fptosi 32 ((n : ℝ) : EReal)).toInt = n := by
  rw [fptosi32 h1 h2, BitVec.toInt_ofInt]
  exact Int.bmod_eq_of_le (by norm_num; omega) (by norm_num; omega)

/-- An integer of [0, 255] as an unsigned 8-bit word. -/
theorem fptoui8 {n : ℤ} (h1 : 0 ≤ n) (h2 : n ≤ 255) : Ideal.fptoui 8 ((n : ℝ) : EReal) = BitVec.ofInt 8 n := by
  unfold Ideal.fptoui
  rw [toIntClamped_int _ _ _ (by norm_num; omega) (by norm_num; omega)]

/-- An integer of [0, 255] converted to an unsigned 8-bit word and read back. -/
theorem fptoui8_toNat {n : ℤ} (h1 : 0 ≤ n) (h2 : n ≤ 255) :
    (((Ideal.fptoui 8 ((n : ℝ) : EReal)).toNat : ℝ) : EReal) = ((n : ℝ) : EReal) := by
  rw [fptoui8 h1 h2]
  obtain ⟨k, rfl⟩ := Int.eq_ofNat_of_zero_le h1
  have hk : k ≤ 255 := by omega
  rw [show BitVec.ofInt 8 (k : ℤ) = BitVec.ofNat 8 k from BitVec.ofInt_natCast 8 k, BitVec.toNat_ofNat,
    Nat.mod_eq_of_lt (by omega)]
  simp

/-- An integer of [0, 255]: the low 8 bits of its signed 32-bit word are its unsigned 8-bit word. -/
theorem trunc_fptosi {n : ℤ} (h1 : 0 ≤ n) (h2 : n ≤ 255) :
    (Ideal.fptosi 32 ((n : ℝ) : EReal)).setWidth 8 = Ideal.fptoui 8 ((n : ℝ) : EReal) := by
  rw [fptoui8 h1 h2, fptosi32 h1 h2]
  obtain ⟨k, rfl⟩ := Int.eq_ofNat_of_zero_le h1
  have hk : k ≤ 255 := by omega
  rw [BitVec.ofInt_natCast, BitVec.ofInt_natCast]
  apply BitVec.eq_of_toNat_eq
  simp

/-- A sum of integer products, shifted: `∑ (c - z) q = ∑ c q - z ∑ q`, each read as extended reals. -/
theorem sum_shift {ι : Type*} [Fintype ι] (c q : ι → ℤ) (z : ℤ) :
    ∑ k, (((c k : ℝ) : EReal) - ((z : ℝ) : EReal)) * ((q k : ℝ) : EReal)
      = ∑ k, ((c k : ℝ) : EReal) * ((q k : ℝ) : EReal) - ((z : ℝ) : EReal) * ∑ k, ((q k : ℝ) : EReal) := by
  have hs : ∀ f : ι → ℝ, ∑ k, ((f k : ℝ) : EReal) = ((∑ k, f k : ℝ) : EReal) := fun f =>
    (map_sum (⟨⟨Real.toEReal, EReal.coe_zero⟩, EReal.coe_add⟩ : ℝ →+ EReal) f Finset.univ).symm
  have e1 : ∀ k, (((c k : ℝ) : EReal) - ((z : ℝ) : EReal)) * ((q k : ℝ) : EReal)
      = ((((c k : ℝ) - z) * q k : ℝ) : EReal) := fun k => by rw [EReal.coe_mul, EReal.coe_sub]
  have e2 : ∀ k, ((c k : ℝ) : EReal) * ((q k : ℝ) : EReal) = (((c k : ℝ) * q k : ℝ) : EReal) := fun k => by
    rw [EReal.coe_mul]
  rw [Finset.sum_congr rfl fun k _ => e1 k, Finset.sum_congr rfl fun k _ => e2 k, hs, hs, hs, ← EReal.coe_mul,
    ← EReal.coe_sub, Finset.mul_sum, ← Finset.sum_sub_distrib]
  congr 1
  exact Finset.sum_congr rfl fun k _ => by ring

end Cert.Proof.Scalars
-- ==== Proof.WeightTrips.lean ====
/-
  Hand-written, untrusted. What the two loops of the weight body leave: the running maxima after every block of 512 rows, the
  codes' pieces, and the accumulated product.
-/
module

public import proofs.«01_k».proof.Proof.WPayloads
public import proofs.«01_k».proof.Proof.KernelIdealFrame
public import proofs.«01_k».proof.Proof.Reads
public import proofs.«01_k».proof.Proof.Scalars
public import Idealize.ShloMosaic.Lib.WritesUnit
public import Idealize.ShloMosaic.Lib.Pipeline.ValueKit

@[expose] public section

set_option maxRecDepth 16384

noncomputable section

namespace Cert.Proof.Weight

open Idealize.ShloMosaic Idealize.ShloMosaic.TcCoe Idealize.ShloMosaic.Tactic
open Cert.KernelIdeal Cert.KernelIdeal.Gen
open Cert.Proof.Reads

/-- Row `r` of block `k` of 512 rows. -/
abbrev blk (k : ℕ) (hk : k < 28) (r : Fin 512) : Fin 14336 := ⟨512 * k + r.val, by have := r.isLt; omega⟩

theorem trips1 : k1_t1_loop.trips = 28 := by decide +kernel
theorem trips2 : k1_t2_loop.trips = 28 := by decide +kernel

/-- A largest absolute value is at most `v` exactly where every absolute value is. -/
theorem amax_le {ι : Type} [Fintype ι] (f : ι → EReal) (v : EReal) : Spec.amax f ≤ v ↔ ∀ i, max (f i) (-f i) ≤ v := by
  rw [Spec.amax, Finset.fold_max_le]
  constructor
  · exact fun h i => h.2 i (Finset.mem_univ i)
  · refine fun h => ⟨?_, fun i _ => h i⟩
    rw [show Ideal.ofBits .f32 4286578688#32 = ⊥ from Scalars.ofBits_bot]
    exact bot_le

/-- An absolute value is not negative. -/
theorem abs_nonneg' (x : EReal) : 0 ≤ max x (-x) := by
  rcases le_total 0 x with h | h
  · exact le_max_of_le_left h
  · exact le_max_of_le_right (EReal.neg_nonneg.mpr h)

section

variable (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (x0 : Vec Ideal S14336x256 .bf16) (x1 : Vec Ideal S14336x128 .f32) (s : Fin 14336 → EReal)

/-- One trip of the first loop. -/
theorem trip1 (h1 : ∀ r c, x1 (ix2 r c) = s r) (k : Fin k1_t1_loop.trips) (hk : k.val < 28) (acc : FVec Ideal S8x256 .f32) (j : S8x256.Idx) :
    tripR_k1_t1 (F := Ideal) Variants.none c none i arg1 harg1 arg2 harg2 arg3 harg3 arg4 harg4 arg5 harg5 arg6 harg6 arg7 harg7 arg8 harg8 (harg1.unread x0) (harg2.unread x1) k acc j
      = max (acc j) (Spec.amax fun x : Fin 64 =>
          x0 (ix2 (blk k.val hk ⟨x.val * 8 + (j 0).val, by have := x.isLt; have := (j 0).isLt; simp at this; omega⟩) (j 1))
            * s (blk k.val hk ⟨x.val * 8 + (j 0).val, by have := x.isLt; have := (j 0).isLt; simp at this; omega⟩)) := by
  unfold tripR_k1_t1 trip_k1_t1
  dsimp only
  refine (Payloads.w_max _ _ _ (fun r => s (blk k.val hk r)) (fun r q => ?_) j).trans ?_
  · refine (readAt_unread harg2 x1 (k1_off1_eq k) _ _ _ (ix2 (blk k.val hk r) q) fun a => ?_).trans (h1 _ _)
    fin_cases a
    · rfl
    · exact (Nat.zero_add _).symm
  · refine congrArg (max (acc j)) (congrArg Spec.amax (funext fun x => congrArg (· * _) ?_))
    refine readAt_unread harg1 x0 (k1_off2_eq k) _ _ _ _ fun a => ?_
    fin_cases a
    · rfl
    · exact (Nat.zero_add _).symm

/-- The running maxima before trip `k`: each is the largest absolute value of its rows so far, zero at least. -/
theorem st1 (h1 : ∀ r c, x1 (ix2 r c) = s r) (j : S8x256.Idx) (v : EReal) (k : ℕ) (hk : k ≤ 28) :
    st_k1_t1 (F := Ideal) Variants.none c none i arg1 harg1 arg2 harg2 arg3 harg3 arg4 harg4 arg5 harg5 arg6 harg6 arg7 harg7 arg8 harg8 (harg1.unread x0) (harg2.unread x1) (k1_pay1 (F := Ideal)) k j ≤ v
      ↔ 0 ≤ v ∧ ∀ r : Fin 14336, r.val < 512 * k → r.val % 8 = (j 0).val → max (x0 (ix2 r (j 1)) * s r) (-(x0 (ix2 r (j 1)) * s r)) ≤ v := by
  induction k with
  | zero =>
    rw [st_k1_t1_zero, Payloads.w_max0]
    exact ⟨fun h => ⟨h, fun r hr => absurd hr (by omega)⟩, fun h => h.1⟩
  | succ k ih =>
    have e := st_k1_t1_succ (F := Ideal) Variants.none c none i arg1 harg1 arg2 harg2 arg3 harg3 arg4 harg4 arg5 harg5 arg6 harg6 arg7 harg7 arg8 harg8 (harg1.unread x0) (harg2.unread x1) (k1_pay1 (F := Ideal)) ⟨k, by rw [trips1]; omega⟩
    rw [e, trip1 c i arg1 harg1 arg2 harg2 arg3 harg3 arg4 harg4 arg5 harg5 arg6 harg6 arg7 harg7 arg8 harg8 x0 x1 s h1 _ (by show k < 28; omega), max_le_iff, amax_le]
    have ih' := ih (by omega)
    rw [ih']
    have hj : (j 0).val < 8 := (j 0).isLt
    constructor
    · rintro ⟨⟨h0, ha⟩, hb⟩
      refine ⟨h0, fun r hr hm => ?_⟩
      by_cases hlt : r.val < 512 * k
      · exact ha r hlt hm
      · have hx : (r.val - 512 * k) / 8 < 64 := by omega
        have := hb ⟨(r.val - 512 * k) / 8, hx⟩
        have er : blk k (by omega) ⟨(r.val - 512 * k) / 8 * 8 + (j 0).val, by omega⟩ = r := Fin.ext (by
          show 512 * k + ((r.val - 512 * k) / 8 * 8 + (j 0).val) = r.val
          omega)
        simpa only [er] using this
    · rintro ⟨h0, h⟩
      refine ⟨⟨h0, fun r hr => h r (by omega)⟩, fun x => h _ ?_ ?_⟩
      · show 512 * k + (x.val * 8 + (j 0).val) < 512 * (k + 1)
        have := x.isLt
        omega
      · show (512 * k + (x.val * 8 + (j 0).val)) % 8 = (j 0).val
        omega

/-- The eight maxima of a column together are the column's largest absolute value. -/
theorem amax_st (h1 : ∀ r c, x1 (ix2 r c) = s r) (q : Fin 256) :
    Finset.fold max (Ideal.ofBits .f32 4286578688#32) (fun x : Fin 8 =>
        st_k1_t1 (F := Ideal) Variants.none c none i arg1 harg1 arg2 harg2 arg3 harg3 arg4 harg4 arg5 harg5 arg6 harg6 arg7 harg7 arg8 harg8 (harg1.unread x0) (harg2.unread x1) (k1_pay1 (F := Ideal)) k1_t1_loop.trips (ix2 x q)) Finset.univ
      = Spec.amax fun r : Fin 14336 => x0 (ix2 r q) * s r := by
  refine eq_of_forall_ge_iff fun v => ?_
  rw [Finset.fold_max_le, amax_le]
  simp only [trips1]
  constructor
  · rintro ⟨-, h⟩ r
    have := ((st1 c i arg1 harg1 arg2 harg2 arg3 harg3 arg4 harg4 arg5 harg5 arg6 harg6 arg7 harg7 arg8 harg8 x0 x1 s h1 (ix2 ⟨r.val % 8, by omega⟩ q) v 28 le_rfl).mp (h _ (Finset.mem_univ _))).2 r (by have := r.isLt; omega) rfl
    exact this
  · intro h
    refine ⟨?_, fun x _ => (st1 c i arg1 harg1 arg2 harg2 arg3 harg3 arg4 harg4 arg5 harg5 arg6 harg6 arg7 harg7 arg8 harg8 x0 x1 s h1 (ix2 x q) v 28 le_rfl).mpr ⟨?_, fun r _ _ => h r⟩⟩
    · rw [show Ideal.ofBits .f32 4286578688#32 = ⊥ from Scalars.ofBits_bot]
      exact bot_le
    · exact (abs_nonneg' _).trans (h ⟨0, by norm_num⟩)

/-- The column scales, from the maxima after all trips. -/
theorem wscale (h1 : ∀ r c, x1 (ix2 r c) = s r) (j : S1x256.Idx) :
    k1_pay3 (F := Ideal) (st_k1_t1 (F := Ideal) Variants.none c none i arg1 harg1 arg2 harg2 arg3 harg3 arg4 harg4 arg5 harg5 arg6 harg6 arg7 harg7 arg8 harg8 (harg1.unread x0) (harg2.unread x1) (k1_pay1 (F := Ideal)) k1_t1_loop.trips) j
      = Spec.wsc s (fun r => x0 (ix2 r (j 1))) := by
  rw [Payloads.w_scale]
  have e := amax_st c i arg1 harg1 arg2 harg2 arg3 harg3 arg4 harg4 arg5 harg5 arg6 harg6 arg7 harg7 arg8 harg8 x0 x1 s h1 (j 1)
  simp only [Spec.wsc]
  exact e ▸ rfl

end

section

variable (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (x0 : Vec Ideal S14336x256 .bf16) (x1 : Vec Ideal S14336x128 .f32) (x2 : Vec Ideal S256x14336 .bf16)
  (s : Fin 14336 → EReal) (v2 : FVec Ideal S8x256 .f32)

/-- The codes of one block of 512 rows. -/
theorem code2 (h1 : ∀ r c, x1 (ix2 r c) = s r) (hv : ∀ q : Fin 256, k1_pay3 (F := Ideal) v2 (ix2 0 q) = Spec.wsc s (fun r => x0 (ix2 r q)))
    (k : Fin k1_t2_loop.trips) (hk : k.val < 28) (z : S512x256.Idx) :
    k1_pay5 (F := Ideal) v2
        (View.readAt (Elt Ideal) arg2.view (Rect.unit (s := S14336x128) (k1_off3 k) S512x128.size (k1_off3_inb k)).toLoadRect (harg2.unread x1))
        (View.readAt (Elt Ideal) arg1.view (Rect.unit (s := S14336x256) (k1_off4 k) S512x256.size (k1_off4_inb k)).toLoadRect (harg1.unread x0)) z
      = Spec.q s (fun r => x0 (ix2 r (z 1))) (blk k.val hk (z 0)) := by
  refine (Payloads.w_code _ _ _ (fun r => s (blk k.val hk r)) (fun r q => ?_) z).trans ?_
  · refine (readAt_unread harg2 x1 (k1_off3_eq k) _ _ _ (ix2 (blk k.val hk r) q) fun a => ?_).trans (h1 _ _)
    fin_cases a
    · rfl
    · exact (Nat.zero_add _).symm
  · have e := readAt_unread harg1 x0 (k1_off4_eq k) S512x256.size (k1_off4_inb k) z (ix2 (blk k.val hk (z 0)) (z 1)) fun a => by
      fin_cases a
      · rfl
      · exact (Nat.zero_add _).symm
    exact congrArg (Ideal.fptosi 8) (congrArg (min _) (congrArg (max _) (congrArg Spec.rnd (congrArg₂ Ideal.div (congrArg (· * _) e) (hv (z 1))))))

/-- One trip of the second loop: the codes' piece, and the accumulator's as a function of what the accumulator holds. -/
theorem trip2 (h1 : ∀ r c, x1 (ix2 r c) = s r) (hv : ∀ q : Fin 256, k1_pay3 (F := Ideal) v2 (ix2 0 q) = Spec.wsc s (fun r => x0 (ix2 r q)))
    (k : Fin k1_t2_loop.trips) (hk : k.val < 28) (f5 f8) :
    (∀ p ∈ (tripL_k1_t2 (F := Ideal) Variants.none c none i arg1 harg1 arg2 harg2 arg3 harg3 arg4 harg4 arg5 harg5 arg6 harg6 arg7 harg7 arg8 harg8 v2 (harg1.unread x0) (harg2.unread x1) (harg3.unread x2) k f5 f8).1,
      ∀ z, p.2 z = Spec.q s (fun r => x0 (ix2 r (p.1.emb z 1))) (p.1.emb z 0))
    ∧ ∀ f L y, arg8.view.read (Elt Ideal) (arg8.view.writes (Elt Ideal) f
        ((tripL_k1_t2 (F := Ideal) Variants.none c none i arg1 harg1 arg2 harg2 arg3 harg3 arg4 harg4 arg5 harg5 arg6 harg6 arg7 harg7 arg8 harg8 v2 (harg1.unread x0) (harg2.unread x1) (harg3.unread x2) k f5 f8).2 ++ L)) y
        = arg8.view.read (Elt Ideal) f8 y + ∑ x : Fin 512, x2 (ix2 (y 0) (blk k.val hk x))
            * (((Spec.q s (fun r => x0 (ix2 r (y 1))) (blk k.val hk x)).toInt : ℝ) : EReal) := by
  unfold tripL_k1_t2 trip_k1_t2
  dsimp only
  refine ⟨fun p hp => ?_, fun f L y => ?_⟩
  · obtain rfl := List.mem_singleton.mp hp
    intro z
    refine (code2 arg1 harg1 arg2 harg2 x0 x1 s v2 h1 hv k hk z).trans ?_
    have e0 : (Rect.unit (s := S14336x256) (k1_off4 k) S512x256.size (k1_off4_inb k)).emb z 0 = blk k.val hk (z 0) := Fin.ext
      (emb_val (s := S14336x256) (k1_off4_eq k) _ _ z 0)
    have e1 : (Rect.unit (s := S14336x256) (k1_off4 k) S512x256.size (k1_off4_inb k)).emb z 1 = z 1 := Fin.ext
      ((emb_val (s := S14336x256) (k1_off4_eq k) _ _ z 1).trans (Nat.zero_add _))
    dsimp only
    rw [e0, e1]
  · refine (View.read_writes_cons_unit_of_mem _ _ _ _ L y y rfl fun a => ?_).trans ?_
    · fin_cases a <;> exact (Nat.zero_add _).symm
    · refine (Payloads.w_acc _ _ _ _ _ y).trans ?_
      refine congrArg₂ (· + ·) ?_ (Finset.sum_congr rfl fun x _ => congrArg₂ (· * ·) ?_ ?_)
      · refine readAt_of_read rfl rfl _ _ _ y fun a => ?_
        fin_cases a <;> exact (Nat.zero_add _).symm
      · refine readAt_unread harg3 x2 (k1_off5_eq k) _ _ _ _ fun a => ?_
        fin_cases a
        · exact (Nat.zero_add _).symm
        · rfl
      · rw [code2 arg1 harg1 arg2 harg2 x0 x1 s v2 h1 hv k hk]
        rfl

/-- The term of row `n` in an entry of the product, zero past the last row. -/
def term (y : S256x256.Idx) (n : ℕ) : EReal :=
  if h : n < 14336 then x2 (ix2 (y 0) ⟨n, h⟩) * (((Spec.q s (fun r => x0 (ix2 r (y 1))) ⟨n, h⟩).toInt : ℝ) : EReal) else 0

/-- All trips of the second loop. -/
theorem pb2 (h1 : ∀ r c, x1 (ix2 r c) = s r) (hv : ∀ q : Fin 256, k1_pay3 (F := Ideal) v2 (ix2 0 q) = Spec.wsc s (fun r => x0 (ix2 r q)))
    (g5 g8) (k : ℕ) (hk : k ≤ 28) :
    (∀ p ∈ (pb_k1_t2 (F := Ideal) Variants.none c none i arg1 harg1 arg2 harg2 arg3 harg3 arg4 harg4 arg5 harg5 arg6 harg6 arg7 harg7 arg8 harg8 v2 (harg1.unread x0) (harg2.unread x1) (harg3.unread x2) g5 g8 k).1,
      ∀ z, p.2 z = Spec.q s (fun r => x0 (ix2 r (p.1.emb z 1))) (p.1.emb z 0))
    ∧ ∀ y, arg8.view.read (Elt Ideal) (arg8.view.writes (Elt Ideal) g8
        (pb_k1_t2 (F := Ideal) Variants.none c none i arg1 harg1 arg2 harg2 arg3 harg3 arg4 harg4 arg5 harg5 arg6 harg6 arg7 harg7 arg8 harg8 v2 (harg1.unread x0) (harg2.unread x1) (harg3.unread x2) g5 g8 k).2) y
        = arg8.view.read (Elt Ideal) g8 y + ∑ n ∈ Finset.range (512 * k), term x0 x2 s y n := by
  induction k with
  | zero =>
    refine ⟨fun p hp => absurd hp List.not_mem_nil, fun y => ?_⟩
    simp only [Nat.mul_zero, Finset.range_zero, Finset.sum_empty, add_zero]
    rfl
  | succ k ih =>
    have e := pb_k1_t2_succ (F := Ideal) Variants.none c none i arg1 harg1 arg2 harg2 arg3 harg3 arg4 harg4 arg5 harg5 arg6 harg6 arg7 harg7 arg8 harg8 v2 (harg1.unread x0) (harg2.unread x1) (harg3.unread x2) g5 g8 ⟨k, by rw [trips2]; omega⟩
    have hk' : k < 28 := by omega
    have ih' := ih (by omega)
    rw [e]
    have t := trip2 c i arg1 harg1 arg2 harg2 arg3 harg3 arg4 harg4 arg5 harg5 arg6 harg6 arg7 harg7 arg8 harg8 x0 x1 x2 s v2 h1 hv ⟨k, by rw [trips2]; omega⟩ hk'
    refine ⟨fun p hp => ?_, fun y => ?_⟩
    · rcases List.mem_append.mp hp with hp | hp
      · exact (t _ _).1 p hp
      · exact ih'.1 p hp
    · refine ((t _ _).2 _ _ y).trans ?_
      rw [ih'.2 y, add_assoc, Nat.mul_succ, Finset.sum_range_add]
      refine congrArg (_ + ·) (congrArg (_ + ·) ?_)
      rw [Finset.sum_range]
      refine Finset.sum_congr rfl fun x _ => ?_
      rw [term, dif_pos]

/-- The accumulated product after all trips over a zero start. -/
theorem acc2 (h1 : ∀ r c, x1 (ix2 r c) = s r) (hv : ∀ q : Fin 256, k1_pay3 (F := Ideal) v2 (ix2 0 q) = Spec.wsc s (fun r => x0 (ix2 r q)))
    (g5 g8) (h8 : ∀ y, arg8.view.read (Elt Ideal) g8 y = 0) (y : S256x256.Idx) :
    arg8.view.read (Elt Ideal) (arg8.view.writes (Elt Ideal) g8
        (pb_k1_t2 (F := Ideal) Variants.none c none i arg1 harg1 arg2 harg2 arg3 harg3 arg4 harg4 arg5 harg5 arg6 harg6 arg7 harg7 arg8 harg8 v2 (harg1.unread x0) (harg2.unread x1) (harg3.unread x2) g5 g8 k1_t2_loop.trips).2) y
      = ∑ r : Fin 14336, x2 (ix2 (y 0) r) * (((Spec.q s (fun r => x0 (ix2 r (y 1))) r).toInt : ℝ) : EReal) := by
  rw [trips2, (pb2 c i arg1 harg1 arg2 harg2 arg3 harg3 arg4 harg4 arg5 harg5 arg6 harg6 arg7 harg7 arg8 harg8 x0 x1 x2 s v2 h1 hv g5 g8 28 le_rfl).2 y, h8, zero_add]
  show ∑ n ∈ Finset.range 14336, term x0 x2 s y n = _
  rw [Finset.sum_range]
  refine Finset.sum_congr rfl fun x _ => ?_
  rw [term, dif_pos x.isLt]

end

end Cert.Proof.Weight
-- ==== Proof.WeightOut.lean ====
/-
  Hand-written, untrusted. What the weight body leaves in its three output buffers, from its input blocks.
-/
module

public import proofs.«01_k».proof.Proof.WeightTrips

@[expose] public section

set_option maxRecDepth 16384

noncomputable section

namespace Cert.Proof.Weight

open Idealize.ShloMosaic Idealize.ShloMosaic.TcCoe Idealize.ShloMosaic.Tactic
open Cert.KernelIdeal Cert.KernelIdeal.Gen
open Cert.Proof.Reads

variable (c : Dev nD) (i : grid1.Coords) (arg1 : Memref sig .tc .vmem S14336x256 .bf16) (harg1 : arg1.IsWhole) (arg2 : Memref sig .tc .vmem S14336x128 .f32) (harg2 : arg2.IsWhole) (arg3 : Memref sig .tc .vmem S256x14336 .bf16) (harg3 : arg3.IsWhole) (arg4 : Memref sig .tc .vmem S256x1 .f32) (harg4 : arg4.IsWhole) (arg5 : Memref sig .tc .vmem S14336x256 .i8) (harg5 : arg5.IsWhole) (arg6 : Memref sig .tc .vmem S1x256 .f32) (harg6 : arg6.IsWhole) (arg7 : Memref sig .tc .vmem S256x256 .bf16) (harg7 : arg7.IsWhole) (arg8 : Memref sig .tc .vmem S256x256 .f32) (harg8 : arg8.IsWhole) (x0 : Vec Ideal S14336x256 .bf16) (x1 : Vec Ideal S14336x128 .f32) (x2 : Vec Ideal S256x14336 .bf16)
  (x3 : Vec Ideal S256x1 .f32) (s : Fin 14336 → EReal)

/-- The codes of the point's columns. -/
theorem out_code (h1 : ∀ r c, x1 (ix2 r c) = s r) (y : S14336x256.Idx) :
    out1_A_4 (F := Ideal) c i arg1 harg1 arg2 harg2 arg3 harg3 arg4 harg4 arg5 harg5 arg6 harg6 arg7 harg7 arg8 harg8 x0 x1 x2 x3 y = Spec.q s (fun r => x0 (ix2 r (y 1))) (y 0) := by
  unfold out1_A_4
  refine View.read_writes_apply_of_pieces _ _ (fun y : S14336x256.Idx => Spec.q s (fun r => x0 (ix2 r (y 1))) (y 0)) _ ?_ y
    (cover1_A_4 (F := Ideal) c i arg1 harg1 arg2 harg2 arg3 harg3 arg4 harg4 arg5 harg5 arg6 harg6 arg7 harg7 arg8 harg8 x0 x1 x2 x3 y)
  unfold kernelRun1_A
  dsimp only
  sl_unfold_words
  exact (pb2 c i arg1 harg1 arg2 harg2 arg3 harg3 arg4 harg4 arg5 harg5 arg6 harg6 arg7 harg7 arg8 harg8 x0 x1 x2 s _ h1 (fun q => wscale c i arg1 harg1 arg2 harg2 arg3 harg3 arg4 harg4 arg5 harg5 arg6 harg6 arg7 harg7 arg8 harg8 x0 x1 s h1 (ix2 0 q)) _ _ k1_t2_loop.trips (le_of_eq trips2)).1

/-- The scales of the point's columns. -/
theorem out_scale (h1 : ∀ r c, x1 (ix2 r c) = s r) (y : S1x256.Idx) :
    out1_A_5 (F := Ideal) c i arg1 harg1 arg2 harg2 arg3 harg3 arg4 harg4 arg5 harg5 arg6 harg6 arg7 harg7 arg8 harg8 x0 x1 x2 x3 y = Spec.wsc s (fun r => x0 (ix2 r (y 1))) := by
  unfold out1_A_5 kernelRun1_A
  dsimp only
  sl_unfold_words
  refine (View.read_writes_cons_unit_of_mem _ _ _ _ [] y y rfl fun a => ?_).trans (wscale c i arg1 harg1 arg2 harg2 arg3 harg3 arg4 harg4 arg5 harg5 arg6 harg6 arg7 harg7 arg8 harg8 x0 x1 s h1 y)
  fin_cases a <;> exact (Nat.zero_add _).symm

/-- The entries of the product in the point's columns. -/
theorem out_y (h1 : ∀ r c, x1 (ix2 r c) = s r) (y : S256x256.Idx) :
    out1_A_6 (F := Ideal) c i arg1 harg1 arg2 harg2 arg3 harg3 arg4 harg4 arg5 harg5 arg6 harg6 arg7 harg7 arg8 harg8 x0 x1 x2 x3 y
      = (∑ r : Fin 14336, x2 (ix2 (y 0) r) * (((Spec.q s (fun r => x0 (ix2 r (y 1))) r).toInt : ℝ) : EReal))
        * x3 (ix2 (y 0) 0) * Spec.wsc s (fun r => x0 (ix2 r (y 1))) := by
  unfold out1_A_6 kernelRun1_A
  dsimp only
  sl_unfold_words
  refine (View.read_writes_cons_unit_of_mem _ _ _ _ [] y y rfl fun a => ?_).trans ?_
  · fin_cases a <;> exact (Nat.zero_add _).symm
  · refine (Payloads.w_y _ _ _ y).trans (congrArg₂ (· * ·) (congrArg₂ (· * ·) ?_ ?_) (wscale c i arg1 harg1 arg2 harg2 arg3 harg3 arg4 harg4 arg5 harg5 arg6 harg6 arg7 harg7 arg8 harg8 x0 x1 s h1 (ix2 0 (y 1))))
    · refine (readAt_of_read rfl rfl _ _ _ y fun a => ?_).trans ?_
      · fin_cases a <;> exact (Nat.zero_add _).symm
      · rw [View.writes_append]
        refine acc2 c i arg1 harg1 arg2 harg2 arg3 harg3 arg4 harg4 arg5 harg5 arg6 harg6 arg7 harg7 arg8 harg8 x0 x1 x2 s _ h1 (fun q => wscale c i arg1 harg1 arg2 harg2 arg3 harg3 arg4 harg4 arg5 harg5 arg6 harg6 arg7 harg7 arg8 harg8 x0 x1 s h1 (ix2 0 q)) _ _ (fun y => ?_) y
        refine (View.read_writes_cons_unit_of_mem _ _ _ _ [] y y rfl fun a => ?_).trans (Payloads.w_acc0 y)
        fin_cases a <;> exact (Nat.zero_add _).symm
    · refine readAt_unread harg4 x3 rfl _ _ _ _ fun a => ?_
      fin_cases a <;> exact (Nat.zero_add _).symm

end Cert.Proof.Weight
-- ==== Proof.WeightArrays.lean ====
/-
  Hand-written, untrusted. What the weight region leaves in its three output arrays, from its four input arrays: point `t` of the
  grid writes the columns from `256 * t` on.
-/
module

public import proofs.«01_k».proof.Proof.WeightOut
public import Idealize.ShloMosaic.Lib.Pipeline.ValueKit

@[expose] public section

set_option maxRecDepth 16384

noncomputable section

namespace Cert.Proof.Weight

open Idealize.ShloMosaic Idealize.ShloMosaic.TcCoe Idealize.ShloMosaic.Tactic
open Idealize.ShloMosaic.Pipeline (Dat)
open Cert.KernelIdeal Cert.KernelIdeal.Gen

variable (V : (c : Dev nD) → (b : Ref sig .tc) → Buf (Elt Ideal) ((c : Thread nD τ).loc b)) (c : Dev nD)

/-- The windows' blocks: the weight's columns and those of the three results go with the point, the rest are whole arrays. -/
theorem idx : ∀ t : Fin cfg1.N, win1_0.index t = ![0, t.val] ∧ win1_1.index t = ![0, 0] ∧ win1_2.index t = ![0, 0] ∧ win1_3.index t = ![0, 0]
    ∧ win1_4.index t = ![0, t.val] ∧ win1_5.index t = ![0, t.val] ∧ win1_6.index t = ![0, t.val] ∧ t.val < 24 :=
  (by decide +kernel : ∀ t : Fin grid1.N, _)

/-- The block of the factors is the array. -/
theorem iblk_s (t : Fin cfg1.N) : iblk1 V c 1 t = (V c main_v2_1 : Vec Ideal S14336x128 .f32) := by
  blk_ext! [iblk1, idx t]

/-- The block of the centred codes is the array. -/
theorem iblk_x (t : Fin cfg1.N) : iblk1 V c 2 t = (V c main_v2_3 : Vec Ideal S256x14336 .bf16) := by
  blk_ext! [iblk1, idx t]

/-- The block of the row scales is the array. -/
theorem iblk_sc (t : Fin cfg1.N) : iblk1 V c 3 t = (V c main_v2_4 : Vec Ideal S256x1 .f32) := by
  blk_ext! [iblk1, idx t]

/-- The block of the weight holds the point's columns. -/
theorem iblk_w (t : Fin cfg1.N) (r : Fin 14336) (q : Fin 256) (k : Fin 6144) (hk : k.val = t.val * 256 + q.val) :
    (iblk1 V c 0 t : Vec Ideal S14336x256 .bf16) (ix2 r q) = (V c main_arg1 : Vec Ideal S14336x6144 .bf16) (ix2 r k) := by
  blk_ext [iblk1, idx t]

variable (s : Fin 14336 → EReal) (h1 : ∀ r q, (V c main_v2_1 : Vec Ideal S14336x128 .f32) (ix2 r q) = s r)

/-- A column of the weight. -/
abbrev col (k : Fin 6144) (r : Fin 14336) : EReal := (V c main_arg1 : Vec Ideal S14336x6144 .bf16) (ix2 r k)

/-- An entry of the product from the centred codes `a`, the row scales `b`, a column `f` of the weight and a row's number. -/
abbrev yAt (a : Vec Ideal S256x14336 .bf16) (b : Vec Ideal S256x1 .f32) (f : Fin 14336 → EReal) (i : Fin 256) : EReal :=
  (∑ r : Fin 14336, a (ix2 i r) * (((Spec.q s f r).toInt : ℝ) : EReal)) * b (ix2 i 0) * Spec.wsc s f

/-- Entries of the product from equal data are equal. -/
theorem yAt_congr {a a' : Vec Ideal S256x14336 .bf16} {b b' : Vec Ideal S256x1 .f32} {f f' : Fin 14336 → EReal} {i i' : Fin 256}
    (ha : a = a') (hb : b = b') (hf : f = f') (hi : i = i') : yAt s a b f i = yAt s a' b' f' i' := by
  subst ha hb hf hi
  rfl

include h1

/-- The weight codes. -/
theorem arr_code : (dat1 V c).arrAt 4 cfg1.N = fun j : S14336x6144.Idx => Spec.q s (col V c (j 1)) (j 0) := by
  refine (dat1 V c).arrAt_eq_of_covers 4 _ (by decide +kernel) fun t hf y => ?_
  blk_simp
  rw [after1_4]
  unfold outsAt1
  dsimp only
  refine (out_code c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) _ _ _ _ s (fun r q => (congrFun (iblk_s V c t) _).trans (h1 r q)) y).trans ?_
  have hcol : (fun r : Fin 14336 => (iblk1 V c 0 t : Vec Ideal S14336x256 .bf16) (ix2 r (y 1))) = col V c (((cfg1.win 4).blk t).view.emb y 1) := by
    funext r
    refine iblk_w V c t r (y 1) _ ?_
    blk_simp [idx t]
  refine congrArg₂ (fun (f : Fin 14336 → EReal) (k : Fin 14336) => Spec.q s f k) hcol (Fin.ext ?_)
  blk_simp [idx t]

/-- The column scales. -/
theorem arr_scale : (dat1 V c).arrAt 5 cfg1.N = fun j : S1x6144.Idx => Spec.wsc s (col V c (j 1)) := by
  refine (dat1 V c).arrAt_eq_of_covers 5 _ (by decide +kernel) fun t hf y => ?_
  blk_simp
  rw [after1_5]
  unfold outsAt1
  dsimp only
  refine (out_scale c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) _ _ _ _ s (fun r q => (congrFun (iblk_s V c t) _).trans (h1 r q)) y).trans ?_
  have hcol : (fun r : Fin 14336 => (iblk1 V c 0 t : Vec Ideal S14336x256 .bf16) (ix2 r (y 1))) = col V c (((cfg1.win 5).blk t).view.emb y 1) := by
    funext r
    refine iblk_w V c t r (y 1) _ ?_
    blk_simp [idx t]
  exact congrArg (fun f : Fin 14336 → EReal => Spec.wsc s f) hcol

/-- The product. -/
theorem arr_y : (dat1 V c).arrAt 6 cfg1.N = fun j : S256x6144.Idx => yAt s (V c main_v2_3) (V c main_v2_4) (col V c (j 1)) (j 0) := by
  refine (dat1 V c).arrAt_eq_of_covers 6 _ (by decide +kernel) fun t hf y => ?_
  blk_simp
  rw [after1_6]
  unfold outsAt1
  dsimp only
  refine (out_y c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) _ _ _ _ s (fun r q => (congrFun (iblk_s V c t) _).trans (h1 r q)) y).trans ?_
  have hcol : (fun r : Fin 14336 => (iblk1 V c 0 t : Vec Ideal S14336x256 .bf16) (ix2 r (y 1))) = col V c (((cfg1.win 6).blk t).view.emb y 1) := by
    funext r
    refine iblk_w V c t r (y 1) _ ?_
    blk_simp [idx t]
  have hrow : (y 0 : Fin 256) = ((cfg1.win 6).blk t).view.emb y 0 := Fin.ext (by blk_simp [idx t])
  exact yAt_congr s (iblk_x V c t) (iblk_sc V c t) hcol hrow

end Cert.Proof.Weight
-- ==== Proof.Results.lean ====
/-
  Hand-written, untrusted. The seven results as functions of the three arguments: what both programs are shown to compute.
-/
module

public import proofs.«01_k».proof.Proof.Spec

@[expose] public section

noncomputable section

namespace Cert.Proof.Results

open Idealize.ShloMosaic

/-- The activations. -/
abbrev SX : Shape := ⟨3, ![2, 128, 14336]⟩
/-- The weight. -/
abbrev SW : Shape := ⟨2, ![14336, 6144]⟩
/-- The channels. -/
abbrev SK : Shape := ⟨1, ![14336]⟩

variable (x : SX.Idx → EReal) (w : SW.Idx → EReal) (b : SK.Idx → EReal)

/-- The smoothing factor of a channel: over all 256 activations of the channel. -/
abbrev fac (k : Fin 14336) : EReal :=
  Spec.smooth (fun i : Fin 256 => x (ix3 ⟨i.val / 128, by omega⟩ ⟨i.val % 128, by omega⟩ k)) (b (ix1 k))

/-- A row of the activations. -/
abbrev row (i : Fin 2) (j : Fin 128) (k : Fin 14336) : EReal := x (ix3 i j k)

/-- A column of the weight. -/
abbrev col (n : Fin 6144) (k : Fin 14336) : EReal := w (ix2 k n)

/-- The product. -/
abbrev y (i : Fin 2) (j : Fin 128) (n : Fin 6144) : EReal := Spec.y (fac x b) (col w n) (row x i j)

/-- The weight codes. -/
abbrev wcode (k : Fin 14336) (n : Fin 6144) : BitVec 8 := Spec.q (fac x b) (col w n) k

/-- The scales of the weight's columns. -/
abbrev wscale (n : Fin 6144) : EReal := Spec.wsc (fac x b) (col w n)

/-- The activation codes. -/
abbrev xcode (i : Fin 2) (j : Fin 128) (k : Fin 14336) : BitVec 8 := (Ideal.fptosi 32 (Spec.cf (fac x b) (row x i j) k)).setWidth 8

/-- The scales of the activations' rows. -/
abbrev xscale (i : Fin 2) (j : Fin 128) : EReal := Spec.sc (fac x b) (row x i j)

/-- The zero points of the activations' rows. -/
abbrev xzero (i : Fin 2) (j : Fin 128) : BitVec 32 := Ideal.fptosi 32 (Spec.zr (fac x b) (row x i j))

end Cert.Proof.Results
-- ==== Proof.KernelArrays.lean ====
/-
  Hand-written, untrusted. The kernel's buffers at the end of the program, from the arguments.
-/
module

public import proofs.«01_k».proof.Proof.ActArrays
public import proofs.«01_k».proof.Proof.WeightArrays
public import proofs.«01_k».proof.Proof.Results
public import Idealize.ShloMosaic.Lib.Claim

@[expose] public section

set_option maxRecDepth 16384

noncomputable section

namespace Cert.Proof.KernelArrays

open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg) (c : Dev nD)

/-- The activations. -/
abbrev X : Vec Ideal S2x128x14336 .bf16 := m ((c : Thread nD τ).loc main_arg0)
/-- The weight. -/
abbrev Wt : Vec Ideal S14336x6144 .bf16 := m ((c : Thread nD τ).loc main_arg1)
/-- The weight's largest absolute values, by channel. -/
abbrev B : Vec Ideal S14336 .f32 := m ((c : Thread nD τ).loc main_arg2)

/-- The activations as 256 rows. -/
theorem x_at (i : Fin 256) (k : Fin 14336) : (V1 m ρ c main_v0 : Vec Ideal S256x14336 .bf16) (ix2 i k)
    = X m c (ix3 ⟨i.val / 128, by omega⟩ ⟨i.val % 128, by omega⟩ k) := by
  show StableHlo.after hostOps0 (W0 m ρ c) main_v0 (ix2 i k) = _
  entry_read
  pointwise

/-- The weight's maxima as a row. -/
theorem b_at (k : Fin 14336) : (V1 m ρ c main_v1 : Vec Ideal S1x14336 .f32) (ix2 0 k) = B m c (ix1 k) := by
  show StableHlo.after hostOps0 (W0 m ρ c) main_v1 (ix2 0 k) = _
  entry_read
  pointwise

/-- The smoothing factors. -/
theorem fac_eq : Act.gs (V1 m ρ c main_v0) (V1 m ρ c main_v1) = Results.fac (X m c) (B m c) :=
  funext fun k => congrArg₂ Spec.smooth (funext fun i => x_at m ρ c i k) (b_at m ρ c k)

/-- The row with number `128 * a + b`. -/
theorem row_eq (i : Fin 256) (a : Fin 2) (b : Fin 128) (h : i.val = a.val * 128 + b.val) :
    (fun l : Fin 14336 => (V1 m ρ c main_v0 : Vec Ideal S256x14336 .bf16) (ix2 i l)) = Results.row (X m c) a b := by
  funext l
  refine (x_at m ρ c i l).trans ?_
  have ha : (⟨i.val / 128, by omega⟩ : Fin 2) = a := Fin.ext (by show i.val / 128 = a.val; omega)
  have hb : (⟨i.val % 128, by omega⟩ : Fin 128) = b := Fin.ext (by show i.val % 128 = b.val; omega)
  rw [ha, hb]

/-- The factors the weight region reads. -/
theorem s_at (r : Fin 14336) (q : Fin 128) : (V2 m ρ c main_v2_1 : Vec Ideal S14336x128 .f32) (ix2 r q) = Results.fac (X m c) (B m c) r :=
  (congrFun ((W2_arr m ρ c 3).trans (Act.arr_scol (V1 m ρ) c)) (ix2 r q)).trans (congrFun (fac_eq m ρ c) r)

/-- The weight the weight region reads. -/
theorem w_eq : V2 m ρ c main_arg1 = Wt m c := W2_args m ρ c main_arg1 (by decide)

/-- The weight codes at the end. -/
theorem codes (j : S14336x6144.Idx) : (W4 m ρ c (Proc.devRef .tc main_v3_0) : IVec S14336x6144 8) j = Results.wcode (X m c) (Wt m c) (B m c) (j 0) (j 1) := by
  have h := (W4_of m ρ c main_v3_0 (by decide)).trans ((W3_arr m ρ c 4).trans (Weight.arr_code (V2 m ρ) c _ (s_at m ρ c)))
  refine (congrFun h j).trans ?_
  exact congrArg (fun f : Fin 14336 → EReal => Spec.q (Results.fac (X m c) (B m c)) f (j 0)) (funext fun r => congrFun (w_eq m ρ c) (ix2 r (j 1)))

/-- The weight's columns as the weight region reads them. -/
theorem col_eq (n : Fin 6144) : Weight.col (V2 m ρ) c n = Results.col (Wt m c) n :=
  funext fun r => congrFun (w_eq m ρ c) (ix2 r n)

/-- The smoothing factors at the end. -/
theorem facs (j : S14336.Idx) : (W4 m ρ c (Proc.devRef .tc main_v5) : FVec Ideal S14336 .f32) j = Results.fac (X m c) (B m c) (j 0) := by
  have h := (W3_of m ρ c main_v2_0 (by decide)).trans ((W2_arr m ρ c 2).trans (Act.arr_s (V1 m ρ) c))
  show StableHlo.after hostOps2 (W3 m ρ c) main_v5 j = _
  entry_read
  rw [h]
  pointwise
  exact congrFun (fac_eq m ρ c) _

/-- The activation codes at the end. -/
theorem xcodes (j : S2x128x14336.Idx) : (W4 m ρ c (Proc.devRef .tc main_v7) : IVec S2x128x14336 8) j = Results.xcode (X m c) (B m c) (j 0) (j 1) (j 2) := by
  have h := (W3_of m ρ c main_v2_2 (by decide)).trans ((W2_arr m ρ c 4).trans (Act.arr_code (V1 m ρ) c))
  show StableHlo.after hostOps2 (W3 m ρ c) main_v7 j = _
  entry_read
  rw [h]
  pointwise
  exact congrArg₂ (fun (f g : Fin 14336 → EReal) => (Ideal.fptosi 32 (Spec.cf f g (j 2))).setWidth 8) (fac_eq m ρ c) (row_eq m ρ c _ (j 0) (j 1) rfl)

/-- The scales of the rows at the end. -/
theorem xscales (j : S2x128.Idx) : (W4 m ρ c (Proc.devRef .tc main_v8) : FVec Ideal S2x128 .f32) j = Results.xscale (X m c) (B m c) (j 0) (j 1) := by
  have h := (W3_of m ρ c main_v2_4 (by decide)).trans ((W2_arr m ρ c 6).trans (Act.arr_sc (V1 m ρ) c))
  show StableHlo.after hostOps2 (W3 m ρ c) main_v8 j = _
  entry_read
  rw [h]
  pointwise
  exact congrArg₂ (fun (f g : Fin 14336 → EReal) => Spec.sc f g) (fac_eq m ρ c) (row_eq m ρ c _ (j 0) (j 1) rfl)

/-- The zero points of the rows at the end. -/
theorem xzeros (j : S2x128.Idx) : (W4 m ρ c (Proc.devRef .tc main_v9) : IVec S2x128 32) j = Results.xzero (X m c) (B m c) (j 0) (j 1) := by
  have h := (W3_of m ρ c main_v2_5 (by decide)).trans ((W2_arr m ρ c 7).trans (Act.arr_zero (V1 m ρ) c))
  show StableHlo.after hostOps2 (W3 m ρ c) main_v9 j = _
  entry_read
  rw [h]
  pointwise
  exact congrArg₂ (fun (f g : Fin 14336 → EReal) => Ideal.fptosi 32 (Spec.zr f g)) (fac_eq m ρ c) (row_eq m ρ c _ (j 0) (j 1) rfl)

/-- The scales of the columns at the end. -/
theorem wscales (j : S6144.Idx) : (W4 m ρ c (Proc.devRef .tc main_v6) : FVec Ideal S6144 .f32) j = Results.wscale (X m c) (Wt m c) (B m c) (j 0) := by
  have h := (W3_arr m ρ c 5).trans (Weight.arr_scale (V2 m ρ) c _ (s_at m ρ c))
  show StableHlo.after hostOps2 (W3 m ρ c) main_v6 j = _
  entry_read
  rw [h]
  pointwise
  exact congrArg (fun f : Fin 14336 → EReal => Spec.wsc (Results.fac (X m c) (B m c)) f) (col_eq m ρ c (j 0))

/-- The centred codes the weight region reads. -/
theorem centred_at (i : Fin 256) (a : Fin 2) (b : Fin 128) (h : i.val = a.val * 128 + b.val) (r : Fin 14336) :
    (V2 m ρ c main_v2_3 : Vec Ideal S256x14336 .bf16) (ix2 i r)
      = Spec.cf (Results.fac (X m c) (B m c)) (Results.row (X m c) a b) r - Spec.zr (Results.fac (X m c) (B m c)) (Results.row (X m c) a b) :=
  (congrFun ((W2_arr m ρ c 5).trans (Act.arr_centred (V1 m ρ) c)) (ix2 i r)).trans
    (congrArg₂ (fun (f g : Fin 14336 → EReal) => Spec.cf f g r - Spec.zr f g) (fac_eq m ρ c) (row_eq m ρ c i a b h))

/-- The row scales the weight region reads. -/
theorem scale_at (i : Fin 256) (a : Fin 2) (b : Fin 128) (h : i.val = a.val * 128 + b.val) :
    (V2 m ρ c main_v2_4 : Vec Ideal S256x1 .f32) (ix2 i 0) = Spec.sc (Results.fac (X m c) (B m c)) (Results.row (X m c) a b) :=
  (congrFun ((W2_arr m ρ c 6).trans (Act.arr_sc (V1 m ρ) c)) (ix2 i 0)).trans
    (congrArg₂ (fun (f g : Fin 14336 → EReal) => Spec.sc f g) (fac_eq m ρ c) (row_eq m ρ c i a b h))

/-- The product at the end. -/
theorem ys (j : S2x128x6144.Idx) : (W4 m ρ c (Proc.devRef .tc main_v4) : FVec Ideal S2x128x6144 .bf16) j = Results.y (X m c) (Wt m c) (B m c) (j 0) (j 1) (j 2) := by
  have h := (W3_arr m ρ c 6).trans (Weight.arr_y (V2 m ρ) c _ (s_at m ρ c))
  show StableHlo.after hostOps2 (W3 m ρ c) main_v4 j = _
  entry_read
  rw [h]
  pointwise
  refine (congrArg (fun f : Fin 14336 → EReal => Weight.yAt (Results.fac (X m c) (B m c)) (V2 m ρ c main_v2_3) (V2 m ρ c main_v2_4) f
    ⟨(j 0).val * 128 + (j 1).val, _⟩) (col_eq m ρ c (j 2))).trans ?_
  exact congrArg₂ (fun a b : EReal => a * b * Spec.wsc (Results.fac (X m c) (B m c)) (Results.col (Wt m c) (j 2)))
    (Finset.sum_congr rfl fun r _ => congrArg (fun a : EReal => a * (((Spec.q (Results.fac (X m c) (B m c)) (Results.col (Wt m c) (j 2)) r).toInt : ℝ) : EReal))
      (centred_at m ρ c _ (j 0) (j 1) rfl r)) (scale_at m ρ c _ (j 0) (j 1) rfl)

end Cert.Proof.KernelArrays
-- ==== Proof.RefPayloads.lean ====
/-
  Hand-written, untrusted. What each value the reference's body stores is at an index, at the extended reals.
-/
module

public import proofs.«01_k».proof.Proof.Results
public import proofs.«01_k».proof.Proof.Folds
public import proofs.«01_k».proof.Proof.Scalars
public import proofs.«01_k».proof.Proof.Gen.ReferenceIdeal.Frame
public import Idealize.ShloMosaic.Lib.Pointwise

@[expose] public section

set_option maxRecDepth 16384

noncomputable section

namespace Cert.Proof.RefPayloads

open Idealize.ShloMosaic Idealize.ShloMosaic.TcCoe Idealize.ShloMosaic.Tactic
open Cert.ReferenceIdeal Cert.ReferenceIdeal.Gen

variable (x : FVec Ideal S2x128x14336 .bf16) (w : FVec Ideal S14336x6144 .bf16) (b : FVec Ideal S14336 .f32)

/-! ## The smoothing factors -/

/-- The largest absolute activation of a channel, over both leading axes, is the maximum over the 256 rows. -/
theorem amax_ch (j : S14336.Idx) :
    multiReduction .maximumf [0, 1] S14336 (absf (extf .f32 x bitsLt_bf16_f32)) 0xFF800000#32 reduces_S2x128x14336_S14336 (.inl rfl) rfl j
      = Spec.amax fun i : Fin 256 => x (ix3 ⟨i.val / 128, by omega⟩ ⟨i.val % 128, by omega⟩ (j 0)) := by
  refine eq_of_forall_ge_iff fun v => ?_
  refine (iff_of_eq (congrArg (· ≤ v) (multiReduction_maximumf_eq_fold _ _ _ _ _ j))).trans ?_
  refine (Finset.fold_max_le v).trans (Iff.trans ?_ (Finset.fold_max_le v).symm)
  refine and_congr Iff.rfl ⟨fun h i _ => ?_, fun h i hi => ?_⟩
  · refine h _ (Finset.mem_filter.mpr ⟨Finset.mem_univ _, ?_⟩)
    funext a
    fin_cases a
    exact Fin.ext (Shape.Reduces.drop_apply_val_of_eq reduces_S2x128x14336_S14336 _ 0 2)
  · have hd := (Finset.mem_filter.mp hi).2
    have h2 : (i 2).val = (j 0).val := by
      rw [← hd]
      exact (Shape.Reduces.drop_apply_val_of_eq reduces_S2x128x14336_S14336 _ 0 2).symm
    have h0 : (i 0).val < 2 := (i 0).isLt
    have h1 : (i 1).val < 128 := (i 1).isLt
    have := h ⟨(i 0).val * 128 + (i 1).val, by omega⟩ (Finset.mem_univ _)
    have e : (ix3 ⟨((i 0).val * 128 + (i 1).val) / 128, by omega⟩ ⟨((i 0).val * 128 + (i 1).val) % 128, by omega⟩ (j 0) : S2x128x14336.Idx) = i := by
      funext a
      fin_cases a
      · exact Fin.ext (by show ((i 0).val * 128 + (i 1).val) / 128 = (i 0).val; omega)
      · exact Fin.ext (by show ((i 0).val * 128 + (i 1).val) % 128 = (i 1).val; omega)
      · exact Fin.ext h2.symm
    have e' := congrArg x e
    show max (x i) (-(x i)) ≤ v
    rw [← e']
    exact this

/-- The factors from the channels' maxima. -/
theorem fac_of (a : FVec Ideal S14336 .f32) (j : S14336.Idx) :
    divf (powf (maximumf a (broadcast S14336 (Scalar.ofBits (F := Ideal) .f32 0x3727C5AC#32))) (broadcast S14336 (Scalar.ofBits (F := Ideal) .f32 0x3F000000#32)))
        (powf (maximumf b (broadcast S14336 (Scalar.ofBits (F := Ideal) .f32 0x3727C5AC#32))) (broadcast S14336 (Scalar.ofBits (F := Ideal) .f32 0x3F000000#32))) j
      = Ideal.div (Ideal.sqrt (max (a j) Spec.flr)) (Ideal.sqrt (max (b j) Spec.flr)) := by
  show Ideal.div (Ideal.pow (max (a j) Spec.flr) (Ideal.ofBits .f32 0x3F000000#32))
    (Ideal.pow (max (b j) Spec.flr) (Ideal.ofBits .f32 0x3F000000#32)) = _
  rw [Scalars.ofBits_half, Scalars.pow_half (le_max_of_le_right Scalars.ofBits_floor_nonneg),
    Scalars.pow_half (le_max_of_le_right Scalars.ofBits_floor_nonneg)]

/-- The smoothing factors. -/
theorem ref_fac (j : S14336.Idx) : k0_pay2 (F := Ideal) x b j = Results.fac x b (j 0) := by
  refine (fac_of b _ j).trans ?_
  have hj : ix1 (j 0) = j := by funext a; fin_cases a; rfl
  exact congrArg₂ (fun p q : EReal => Ideal.div (Ideal.sqrt (max p Spec.flr)) (Ideal.sqrt (max q Spec.flr))) (amax_ch x j)
    (congrArg b hj.symm)

/-! ## The weight -/

/-- The smoothed weight from the factors. -/
theorem ws_of (s : FVec Ideal S14336 .f32) (j : S14336x6144.Idx) :
    mulf (extf .f32 w bitsLt_bf16_f32) (broadcastTo S14336x6144 (shapeCast S14336x1 s shapeCasts_S14336_S14336x1) broadcasts_S14336x1_S14336x6144) j
      = w j * s (ix1 (j 0)) := by
  pointwise []

/-- The smoothed weight. -/
theorem ref_ws (j : S14336x6144.Idx) : k0_pay3 (F := Ideal) x w b j = w j * Results.fac x b (j 0) :=
  (ws_of w _ j).trans (congrArg (w j * ·) (ref_fac x b (ix1 (j 0))))

/-- A column's index with the row inserted. -/
theorem lift_col (h : S14336x6144.Reduces [0] S6144) (n : Fin 6144) (k : Fin 14336) : h.lift (ix1 n) k = ix2 k n := by
  funext a
  fin_cases a <;> rfl

/-- The scale of each column from its largest absolute value. -/
theorem wsc_of (a : FVec Ideal S6144 .f32) (j : S6144.Idx) :
    select (cmpf .oeq a (broadcast S6144 (Scalar.ofBits (F := Ideal) .f32 0x00000000#32))) (broadcast S6144 (Scalar.ofBits (F := Ideal) .f32 0x3F800000#32))
        (divf a (broadcast S6144 (Scalar.ofBits (F := Ideal) .f32 0x42FE0000#32))) j
      = if a j = 0 then 1 else Ideal.div (a j) (Ideal.ofBits .f32 1123942400#32) := by
  pointwise []

/-- The scales of the weight's columns. -/
theorem ref_wsc (n : Fin 6144) : k0_pay4 (F := Ideal) x w b (ix1 n) = Results.wscale x w b n := by
  have hm : multiReduction .maximumf [0] S6144 (absf (k0_pay3 (F := Ideal) x w b)) 0xFF800000#32 reduces_S14336x6144_S6144 (.inl rfl) rfl (ix1 n)
      = Spec.amax (fun k : Fin 14336 => Results.col w n k * Results.fac x b k) := by
    refine (Folds.red_max _ _ _ _ _ _).trans ?_
    refine congrArg (fun f => Finset.fold max (Ideal.ofBits .f32 4286578688#32) f (Finset.univ : Finset (Fin 14336))) (funext fun k => ?_)
    have e := (congrArg (k0_pay3 (F := Ideal) x w b) (lift_col reduces_S14336x6144_S6144 n k)).trans (ref_ws x w b _)
    exact congrArg (fun v : EReal => max v (-v)) e
  exact (wsc_of _ _).trans (congrArg (fun a : EReal => if a = 0 then 1 else Ideal.div a (Ideal.ofBits .f32 1123942400#32)) hm)

/-- A vector held between two splats. -/
theorem clip_of {S : Shape} (a c : Ideal .f32) (v : FVec Ideal S .f32) (j : S.Idx) :
    minimumf (broadcast S a) (maximumf (broadcast S c) v) j = min a (max c (v j)) := rfl

/-- A quotient rounded. -/
theorem rdiv_of {S : Shape} (p s : FVec Ideal S .f32) (j : S.Idx) : roundeven (divf p s) j = Spec.rnd (Ideal.div (p j) (s j)) := rfl

/-- The conversion to a signed word, at an index. -/
theorem fptosi_of {S : Shape} (n : Nat) (v : FVec Ideal S .f32) (j : S.Idx) : fptosi n v j = Ideal.fptosi n (v j) := rfl

/-- The conversion to an unsigned word, at an index. -/
theorem fptoui_of {S : Shape} (n : Nat) (v : FVec Ideal S .f32) (j : S.Idx) : fptoui n v j = Ideal.fptoui n (v j) := rfl

/-- A row of scales spread down the columns. -/
theorem bc_row (z : FVec Ideal S6144 .f32) (j : S14336x6144.Idx) :
    broadcastTo S14336x6144 (shapeCast S1x6144 z shapeCasts_S6144_S1x6144) broadcasts_S1x6144_S14336x6144 j = z (ix1 (j 1)) := by
  pointwise []

/-- The weight codes from the smoothed weight and the scales. -/
theorem q_of (j : S14336x6144.Idx) :
    k0_pay5 (F := Ideal) x w b j = Ideal.fptosi 8 (min (((127#32).toInt : ℝ) : EReal) (max (((4294967169#32).toInt : ℝ) : EReal)
      (Spec.rnd (Ideal.div (k0_pay3 (F := Ideal) x w b j) (k0_pay4 (F := Ideal) x w b (ix1 (j 1))))))) := by
  unfold k0_pay5
  rw [fptosi_of, clip_of, rdiv_of, bc_row, Ideal.scalar_sitofp_def, Ideal.scalar_sitofp_def]

/-- The weight codes. -/
theorem ref_q (k : Fin 14336) (n : Fin 6144) : k0_pay5 (F := Ideal) x w b (ix2 k n) = Results.wcode x w b k n :=
  (q_of x w b (ix2 k n)).trans (congrArg₂ (fun p s : EReal => Ideal.fptosi 8 (min (((127#32).toInt : ℝ) : EReal)
    (max (((4294967169#32).toInt : ℝ) : EReal) (Spec.rnd (Ideal.div p s))))) (ref_ws x w b (ix2 k n)) (ref_wsc x w b n))

/-! ## The activations -/

/-- The smoothed activations from the factors. -/
theorem xs_of (s : FVec Ideal S14336 .f32) (j : S2x128x14336.Idx) :
    divf (extf .f32 x bitsLt_bf16_f32) (broadcastTo S2x128x14336 (shapeCast S1x1x14336 s shapeCasts_S14336_S1x1x14336) broadcasts_S1x1x14336_S2x128x14336) j
      = Ideal.div (x j) (s (ix1 (j 2))) := by
  pointwise []

/-- The smoothed activations. -/
theorem ref_xs (i : Fin 2) (r : Fin 128) (k : Fin 14336) :
    k0_pay6 (F := Ideal) x b (ix3 i r k) = Spec.xs (Results.fac x b) (Results.row x i r) k :=
  (xs_of x _ (ix3 i r k)).trans (congrArg (Ideal.div (x (ix3 i r k))) (ref_fac x b (ix1 k)))

/-- A row's index with the channel inserted. -/
theorem lift_row (h : S2x128x14336.Reduces [2] S2x128) (i : Fin 2) (r : Fin 128) (k : Fin 14336) : h.lift (ix2 i r) k = ix3 i r k := by
  funext a
  fin_cases a <;> rfl

/-- A vector held under zero. -/
theorem mn_of (v : FVec Ideal S2x128 .f32) (j : S2x128.Idx) :
    minimumf v (broadcast S2x128 (Scalar.ofBits (F := Ideal) .f32 0x00000000#32)) j = min (v j) 0 := by
  pointwise []

/-- The scale of each row from its least and its greatest value. -/
theorem sc_of (v m : FVec Ideal S2x128 .f32) (j : S2x128.Idx) :
    select (cmpf .oeq (maximumf v (broadcast S2x128 (Scalar.ofBits (F := Ideal) .f32 0x00000000#32))) m)
        (broadcast S2x128 (Scalar.ofBits (F := Ideal) .f32 0x3F800000#32))
        (divf (subf (maximumf v (broadcast S2x128 (Scalar.ofBits (F := Ideal) .f32 0x00000000#32))) m)
          (broadcast S2x128 (Scalar.ofBits (F := Ideal) .f32 0x437F0000#32))) j
      = if max (v j) 0 = m j then 1 else Ideal.div (max (v j) 0 - m j) (Ideal.ofBits .f32 1132396544#32) := by
  pointwise []

section Row

variable (i : Fin 2) (r : Fin 128)

/-- The least smoothed activation of each row, zero at most. -/
theorem ref_mn : k0_pay7 (F := Ideal) (k0_pay6 x b) (ix2 i r) = Spec.mn (Results.fac x b) (Results.row x i r) := by
  refine (mn_of _ _).trans (congrArg (min · 0) ?_)
  refine (Folds.red_min _ _ _ _ _ _).trans ?_
  refine congrArg (fun f => Finset.fold min (Ideal.ofBits .f32 2139095040#32) f (Finset.univ : Finset (Fin 14336))) (funext fun k => ?_)
  exact (congrArg (k0_pay6 (F := Ideal) x b) (lift_row _ i r k)).trans (ref_xs x b i r k)

/-- The scale of each row. -/
theorem ref_sc : k0_pay8 (F := Ideal) (k0_pay6 x b) (ix2 i r) = Spec.sc (Results.fac x b) (Results.row x i r) := by
  have hm : multiReduction .maximumf [2] S2x128 (k0_pay6 (F := Ideal) x b) 0xFF800000#32 reduces_S2x128x14336_S2x128 (.inl rfl) rfl (ix2 i r)
      = Finset.fold max (Ideal.ofBits .f32 4286578688#32) (Spec.xs (Results.fac x b) (Results.row x i r)) Finset.univ := by
    refine (Folds.red_max _ _ _ _ _ _).trans ?_
    refine congrArg (fun f => Finset.fold max (Ideal.ofBits .f32 4286578688#32) f (Finset.univ : Finset (Fin 14336))) (funext fun k => ?_)
    exact (congrArg (k0_pay6 (F := Ideal) x b) (lift_row _ i r k)).trans (ref_xs x b i r k)
  refine (sc_of _ (k0_pay7 (F := Ideal) (k0_pay6 x b)) (ix2 i r)).trans ?_
  rw [hm, ref_mn]

/-- The negated quotient rounded. -/
theorem round_of (m s : FVec Ideal S2x128 .f32) (j : S2x128.Idx) :
    roundeven (divf (subf (broadcast S2x128 (Scalar.ofBits (F := Ideal) .f32 0x00000000#32)) m) s) j = Spec.rnd (Ideal.div (0 - m j) (s j)) := by
  pointwise []

/-- The zero point of each row from its least value and its scale. -/
theorem zr_of (v : FVec Ideal S2x128x14336 .f32) (j : S2x128.Idx) :
    k0_pay9 (F := Ideal) v j = Ideal.fptosi 32 (min (((255#32).toInt : ℝ) : EReal) (max (((0#32).toInt : ℝ) : EReal)
      (Spec.rnd (Ideal.div (0 - k0_pay7 (F := Ideal) v j) (k0_pay8 (F := Ideal) v j))))) := by
  unfold k0_pay9
  rw [fptosi_of, clip_of, round_of, Ideal.scalar_sitofp_def, Ideal.scalar_sitofp_def]

/-- The zero point of each row. -/
theorem ref_zero : k0_pay9 (F := Ideal) (k0_pay6 x b) (ix2 i r) = Results.xzero x b i r :=
  (zr_of _ _).trans (congrArg₂ (fun p q : EReal => Ideal.fptosi 32 (min (((255#32).toInt : ℝ) : EReal) (max (((0#32).toInt : ℝ) : EReal)
    (Spec.rnd (Ideal.div (0 - p) q))))) (ref_mn x b i r) (ref_sc x b i r))

/-- Zero points are integers of [0, 255]. -/
theorem zr_int (s row : Fin 14336 → EReal) : ∃ n : ℤ, 0 ≤ n ∧ n ≤ 255 ∧ Spec.zr s row = ((n : ℝ) : EReal) :=
  Scalars.IsInt.clip (Scalars.isInt_round _ _) (by decide)

/-- Codes are integers of [0, 255]. -/
theorem cf_int (s row : Fin 14336 → EReal) (k : Fin 14336) : ∃ n : ℤ, 0 ≤ n ∧ n ≤ 255 ∧ Spec.cf s row k = ((n : ℝ) : EReal) := by
  obtain ⟨z, -, -, hz⟩ := zr_int s row
  show ∃ n : ℤ, 0 ≤ n ∧ n ≤ 255 ∧ min _ (max _ (_ + Spec.zr s row)) = _
  rw [hz]
  exact Scalars.IsInt.clip ((Scalars.isInt_round _ _).add_int z) (by decide)

/-- A zero point's word read back. -/
theorem zero_back : (((Results.xzero x b i r).toInt : ℝ) : EReal) = Spec.zr (Results.fac x b) (Results.row x i r) := by
  obtain ⟨z, h1, h2, hz⟩ := zr_int (Results.fac x b) (Results.row x i r)
  show (((Ideal.fptosi 32 (Spec.zr (Results.fac x b) (Results.row x i r))).toInt : ℝ) : EReal) = _
  rw [hz, Scalars.fptosi32_toInt h1 h2]

/-- A column of floats spread over the rows' entries. -/
theorem bc_col (z : FVec Ideal S2x128 .f32) (j : S2x128x14336.Idx) :
    broadcastTo S2x128x14336 (shapeCast S2x128x1 z shapeCasts_S2x128_S2x128x1) broadcasts_S2x128x1_S2x128x14336 j = z (ix2 (j 0) (j 1)) := by
  pointwise []

/-- A column of words read as floats and spread over the rows' entries. -/
theorem bc_zero (z : IVec S2x128 32) (j : S2x128x14336.Idx) :
    broadcastTo S2x128x14336 (sitofp (F := Ideal) .f32 (shapeCast S2x128x1 z shapeCasts_S2x128_S2x128x1)) broadcasts_S2x128x1_S2x128x14336 j
      = (((z (ix2 (j 0) (j 1))).toInt : ℝ) : EReal) := by
  pointwise []
  rfl

/-- A sum of two vectors, at an index. -/
theorem add_of {S : Shape} (p q : FVec Ideal S .f32) (j : S.Idx) : addf p q j = (p j : EReal) + q j := rfl

/-- The codes from the smoothed activations, the scales and the zero points. -/
theorem code_of (v : FVec Ideal S2x128x14336 .f32) (j : S2x128x14336.Idx) :
    k0_pay10 (F := Ideal) v j = Ideal.fptoui 8 (min (((255#32).toInt : ℝ) : EReal) (max (((0#32).toInt : ℝ) : EReal)
      (Spec.rnd (Ideal.div (v j) (k0_pay8 (F := Ideal) v (ix2 (j 0) (j 1))))
        + (((k0_pay9 (F := Ideal) v (ix2 (j 0) (j 1))).toInt : ℝ) : EReal)))) := by
  unfold k0_pay10
  rw [fptoui_of, clip_of, add_of, rdiv_of, bc_col, bc_zero, Ideal.scalar_sitofp_def, Ideal.scalar_sitofp_def]

/-- The codes as unsigned words. -/
theorem code_ui (k : Fin 14336) :
    k0_pay10 (F := Ideal) (k0_pay6 x b) (ix3 i r k) = Ideal.fptoui 8 (Spec.cf (Results.fac x b) (Results.row x i r) k) := by
  refine (code_of _ _).trans ?_
  refine congrArg₂ (fun p q : EReal => Ideal.fptoui 8 (min (((255#32).toInt : ℝ) : EReal) (max (((0#32).toInt : ℝ) : EReal)
    (Spec.rnd p + q)))) (congrArg₂ Ideal.div (ref_xs x b i r k) (ref_sc x b i r)) ?_
  exact (congrArg (fun z : BitVec 32 => ((z.toInt : ℝ) : EReal)) (ref_zero x b i r)).trans (zero_back x b i r)

/-- The activation codes. -/
theorem ref_code (k : Fin 14336) : k0_pay10 (F := Ideal) (k0_pay6 x b) (ix3 i r k) = Results.xcode x b i r k := by
  refine (code_ui x b i r k).trans ?_
  obtain ⟨z, h1, h2, hz⟩ := cf_int (Results.fac x b) (Results.row x i r) k
  show _ = (Ideal.fptosi 32 (Spec.cf (Results.fac x b) (Results.row x i r) k)).setWidth 8
  rw [hz, Scalars.trunc_fptosi h1 h2]

/-- A code's word read back. -/
theorem code_back (k : Fin 14336) :
    (((k0_pay10 (F := Ideal) (k0_pay6 x b) (ix3 i r k)).toNat : ℝ) : EReal) = Spec.cf (Results.fac x b) (Results.row x i r) k := by
  rw [code_ui]
  obtain ⟨z, h1, h2, hz⟩ := cf_int (Results.fac x b) (Results.row x i r) k
  rw [hz, Scalars.fptoui8_toNat h1 h2]

end Row

/-! ## The product -/

/-- The contraction of activation codes and weight codes. -/
theorem dot_of (p : FVec Ideal S2x128x14336 .bf16) (q : FVec Ideal S14336x6144 .bf16) (j : S2x128x6144.Idx) :
    matmul dot_S2x128x14336_S14336x6144_S2x128x6144_2_0_01_1_n_n none p q (constant (F := Ideal) S2x128x6144 .f32 0x00000000#32) j
      = ∑ k : Fin 14336, p (ix3 (j 0) (j 1) k) * q (ix2 k (j 2)) := by
  pointwise []

/-- The entries from the contraction, the corrections and the scales. -/
theorem y_of (v26 : FVec Ideal S6144 .f32) (v53 : FVec Ideal S2x128 .f32) (v82 v88 v89 : FVec Ideal S2x128x6144 .f32) (j : S2x128x6144.Idx) :
    k0_pay1 (F := Ideal) v26 v53 v82 v88 v89 j = (v82 j - v88 j * v89 j) * v53 (ix2 (j 0) (j 1)) * v26 (ix1 (j 2)) := by
  pointwise [k0_pay1]

/-- The zero points spread over the product's entries. -/
theorem zeros_of (z : IVec S2x128 32) (j : S2x128x6144.Idx) :
    broadcastTo S2x128x6144 (sitofp (F := Ideal) .f32 (shapeCast S2x128x1 z shapeCasts_S2x128_S2x128x1)) broadcasts_S2x128x1_S2x128x6144 j
      = (((z (ix2 (j 0) (j 1))).toInt : ℝ) : EReal) := by
  pointwise []
  rfl

/-- A row of sums spread over the product's entries. -/
theorem sums_of (z : FVec Ideal S6144 .f32) (j : S2x128x6144.Idx) :
    broadcastTo S2x128x6144 (shapeCast S1x1x6144 z shapeCasts_S6144_S1x1x6144) broadcasts_S1x1x6144_S2x128x6144 j = z (ix1 (j 2)) := by
  pointwise []

/-- The column sums of the weight codes. -/
theorem colsum_of (q : IVec S14336x6144 8) (j : S2x128x6144.Idx) :
    k0_pay13 (F := Ideal) q j = ∑ k : Fin 14336, (((q (ix2 k (j 2))).toInt : ℝ) : EReal) := by
  refine (sums_of _ j).trans ((Ideal.multiReduction_add_single _ _ _ _ _ _).trans ?_)
  refine Finset.sum_congr rfl fun k _ => ?_
  exact congrArg (fun i : S14336x6144.Idx => (((q i).toInt : ℝ) : EReal)) (lift_col reduces_S14336x6144_S6144 (j 2) k)

/-- The product. -/
theorem ref_y (i : Fin 2) (r : Fin 128) (n : Fin 6144) :
    k0_pay1 (F := Ideal) (k0_pay4 (F := Ideal) x w b) (k0_pay8 (F := Ideal) (k0_pay6 (F := Ideal) x b)) (k0_pay11 (F := Ideal) (k0_pay5 (F := Ideal) x w b) (k0_pay6 (F := Ideal) x b))
        (k0_pay12 (F := Ideal) (k0_pay6 (F := Ideal) x b)) (k0_pay13 (F := Ideal) (k0_pay5 (F := Ideal) x w b)) (ix3 i r n)
      = Results.y x w b i r n := by
  refine (y_of _ _ _ _ _ _).trans ?_
  refine congrArg₂ (· * ·) (congrArg₂ (· * ·) ?_ (ref_sc x b i r)) (ref_wsc x w b n)
  have ha : k0_pay11 (F := Ideal) (k0_pay5 (F := Ideal) x w b) (k0_pay6 (F := Ideal) x b) (ix3 i r n)
      = ∑ k : Fin 14336, Spec.cf (Results.fac x b) (Results.row x i r) k * (((Results.wcode x w b k n).toInt : ℝ) : EReal) := by
    refine (dot_of _ _ _).trans (Finset.sum_congr rfl fun k _ => ?_)
    exact congrArg₂ (fun p q : EReal => p * q) (code_back x b i r k) (congrArg (fun z : BitVec 8 => ((z.toInt : ℝ) : EReal)) (ref_q x w b k n))
  have hz : k0_pay12 (F := Ideal) (k0_pay6 x b) (ix3 i r n) = Spec.zr (Results.fac x b) (Results.row x i r) :=
    (zeros_of _ _).trans ((congrArg (fun z : BitVec 32 => ((z.toInt : ℝ) : EReal)) (ref_zero x b i r)).trans (zero_back x b i r))
  have hs : k0_pay13 (F := Ideal) (k0_pay5 (F := Ideal) x w b) (ix3 i r n) = ∑ k : Fin 14336, (((Results.wcode x w b k n).toInt : ℝ) : EReal) :=
    (colsum_of _ _).trans (Finset.sum_congr rfl fun k _ => congrArg (fun z : BitVec 8 => ((z.toInt : ℝ) : EReal)) (ref_q x w b k n))
  rw [ha, hz, hs]
  obtain ⟨z, -, -, ez⟩ := zr_int (Results.fac x b) (Results.row x i r)
  choose c _ _ hc using cf_int (Results.fac x b) (Results.row x i r)
  rw [ez]
  simp only [hc]
  exact (Scalars.sum_shift c (fun k => (Results.wcode x w b k n).toInt) z).symm

end Cert.Proof.RefPayloads
-- ==== Proof.RefRun.lean ====
/-
  Hand-written, untrusted. The reference's run with each of its seven results as the shared functions of the arguments.
-/
module

public import proofs.«01_k».proof.Proof.RefPayloads
public import proofs.«01_k».proof.Proof.Gen.ReferenceIdeal.Value

@[expose] public section

set_option maxRecDepth 16384

noncomputable section

namespace Cert.Proof.RefRun

open Idealize.ShloMosaic Idealize.ShloMosaic.TcCoe Idealize.ShloMosaic.Tactic
open Cert.ReferenceIdeal Cert.ReferenceIdeal.Gen Cert.ReferenceIdeal.Value

variable (x : FVec Ideal S2x128x14336 .bf16) (w : FVec Ideal S14336x6144 .bf16) (b : FVec Ideal S14336 .f32)

/-- The scales of the weight's columns, of the arguments read whole. -/
theorem pay14 : k0_pay14 (F := Ideal) x w b = k0_pay4 (F := Ideal) x w b := by
  unfold k0_pay14
  rw [View.ld_unit_zero (by decide), View.ld_unit_zero (by decide), View.ld_unit_zero (by decide)]

/-- The weight codes, of the arguments read whole. -/
theorem pay15 : k0_pay15 (F := Ideal) x w b = k0_pay5 (F := Ideal) x w b := by
  unfold k0_pay15
  rw [View.ld_unit_zero (by decide), View.ld_unit_zero (by decide), View.ld_unit_zero (by decide)]

/-- The smoothed activations, of the arguments read whole. -/
theorem pay16 : k0_pay16 (F := Ideal) x w b = k0_pay6 (F := Ideal) x b := by
  unfold k0_pay16
  rw [View.ld_unit_zero (by decide), View.ld_unit_zero (by decide)]

/-- The scales of the activations' rows. -/
theorem pay17 : k0_pay17 (F := Ideal) x w b = k0_pay8 (F := Ideal) (k0_pay6 (F := Ideal) x b) := by
  unfold k0_pay17
  rw [pay16]

/-- The product. -/
theorem y_eq : G3 (F := Ideal) x w b = fun j : S2x128x6144.Idx => Results.y x w b (j 0) (j 1) (j 2) := by
  funext j
  have hj : ix3 (j 0) (j 1) (j 2) = j := by funext a; fin_cases a <;> rfl
  refine Eq.trans ?_ (RefPayloads.ref_y x w b (j 0) (j 1) (j 2))
  show k0_pay1 (F := Ideal) _ _ _ _ _ j = _
  rw [pay14, pay15, pay16, pay17]
  exact congrArg _ hj.symm

/-- The smoothing factors. -/
theorem fac_eq : G4 (F := Ideal) x w b = fun j : S14336.Idx => Results.fac x b (j 0) := by
  funext j
  exact RefPayloads.ref_fac x b j

/-- The weight codes. -/
theorem wcode_eq : G5 (F := Ideal) x w b = fun j : S14336x6144.Idx => Results.wcode x w b (j 0) (j 1) := by
  funext j
  have hj : ix2 (j 0) (j 1) = j := by funext a; fin_cases a <;> rfl
  refine Eq.trans ?_ (RefPayloads.ref_q x w b (j 0) (j 1))
  show k0_pay15 (F := Ideal) x w b j = _
  rw [pay15]
  exact congrArg _ hj.symm

/-- The scales of the weight's columns. -/
theorem wscale_eq : G6 (F := Ideal) x w b = fun j : S6144.Idx => Results.wscale x w b (j 0) := by
  funext j
  have hj : ix1 (j 0) = j := by funext a; fin_cases a; rfl
  refine Eq.trans ?_ (RefPayloads.ref_wsc x w b (j 0))
  show k0_pay14 (F := Ideal) x w b j = _
  rw [pay14]
  exact congrArg _ hj.symm

/-- The activation codes. -/
theorem xcode_eq : G7 (F := Ideal) x w b = fun j : S2x128x14336.Idx => Results.xcode x b (j 0) (j 1) (j 2) := by
  funext j
  have hj : ix3 (j 0) (j 1) (j 2) = j := by funext a; fin_cases a <;> rfl
  refine Eq.trans ?_ (RefPayloads.ref_code x b (j 0) (j 1) (j 2))
  show k0_pay10 (F := Ideal) _ j = _
  rw [pay16]
  exact congrArg _ hj.symm

/-- The scales of the activations' rows. -/
theorem xscale_eq : G8 (F := Ideal) x w b = fun j : S2x128.Idx => Results.xscale x b (j 0) (j 1) := by
  funext j
  have hj : ix2 (j 0) (j 1) = j := by funext a; fin_cases a <;> rfl
  refine Eq.trans ?_ (RefPayloads.ref_sc x b (j 0) (j 1))
  show k0_pay17 (F := Ideal) x w b j = _
  rw [pay17]
  exact congrArg _ hj.symm

/-- The zero points of the activations' rows. -/
theorem xzero_eq : G9 (F := Ideal) x w b = fun j : S2x128.Idx => Results.xzero x b (j 0) (j 1) := by
  funext j
  have hj : ix2 (j 0) (j 1) = j := by funext a; fin_cases a <;> rfl
  refine Eq.trans ?_ (RefPayloads.ref_zero x b (j 0) (j 1))
  show k0_pay9 (F := Ideal) _ j = _
  rw [pay16]
  exact congrArg _ hj.symm

end Cert.Proof.RefRun
-- ==== Proof.Algebraic.lean ====
/-
  Hand-written, untrusted. The value claim: from memories agreeing on the arguments, kernel and reference end with the same seven
  results, at the extended reals.
-/
module

public import proofs.«01_k».proof.Defs
public import proofs.«01_k».proof.Proof.KernelRun
public import proofs.«01_k».proof.Proof.KernelArrays
public import proofs.«01_k».proof.Proof.RefRun

@[expose] public section

set_option maxRecDepth 16384

noncomputable section

namespace Cert.Proof.Algebraic

open Idealize.ShloMosaic Idealize.ShloMosaic.TcCoe Idealize.SL.Sem
open Cert.Proof.KernelArrays (X Wt B)

/-- Kernel and reference end with the same seven results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c (j : Cert.KernelIdeal.S2x128x6144.Idx) => Results.y (X m c) (Wt m c) (B m c) (j 0) (j 1) (j 2),
    fun c (j : Cert.KernelIdeal.S14336.Idx) => Results.fac (X m c) (B m c) (j 0),
    fun c (j : Cert.KernelIdeal.S14336x6144.Idx) => Results.wcode (X m c) (Wt m c) (B m c) (j 0) (j 1),
    fun c (j : Cert.KernelIdeal.S6144.Idx) => Results.wscale (X m c) (Wt m c) (B m c) (j 0),
    fun c (j : Cert.KernelIdeal.S2x128x14336.Idx) => Results.xcode (X m c) (B m c) (j 0) (j 1) (j 2),
    fun c (j : Cert.KernelIdeal.S2x128.Idx) => Results.xscale (X m c) (B m c) (j 0) (j 1),
    fun c (j : Cert.KernelIdeal.S2x128.Idx) => Results.xzero (X m c) (B m c) (j 0) (j 1), ?_, ?_⟩
  · refine (θ_run Cert.KernelIdeal.defs _ _).mono (fun r h c => ?_) (Cert.KernelIdeal.Gen.run_values (F := Ideal) m g)
    obtain ⟨h0, h1, h2, h3, h4, h5, h6, ha⟩ := h c
    exact ⟨h0.trans (funext fun j => KernelArrays.ys m g c j), h1.trans (funext fun j => KernelArrays.facs m g c j),
      h2.trans (funext fun j => KernelArrays.codes m g c j), h3.trans (funext fun j => KernelArrays.wscales m g c j),
      h4.trans (funext fun j => KernelArrays.xcodes m g c j), h5.trans (funext fun j => KernelArrays.xscales m g c j),
      h6.trans (funext fun j => KernelArrays.xzeros m g c j), ha⟩
  · refine (θ_run Cert.ReferenceIdeal.defs _ _).mono (fun r h c => ?_) (Cert.ReferenceIdeal.Value.run (F := Ideal) m' g')
    obtain ⟨h0, h1, h2, h3, h4, h5, h6, ha⟩ := h c
    obtain ⟨e0, e1, e2⟩ := hagree c
    refine ⟨h0.trans ?_, h1.trans ?_, h2.trans ?_, h3.trans ?_, h4.trans ?_, h5.trans ?_, h6.trans ?_, ha⟩
    · rw [RefRun.y_eq, e0, e1, e2]
    · rw [RefRun.fac_eq, e0, e2]
    · rw [RefRun.wcode_eq, e0, e1, e2]
    · rw [RefRun.wscale_eq, e0, e1, e2]
    · rw [RefRun.xcode_eq, e0, e2]
    · rw [RefRun.xscale_eq, e0, e2]
    · rw [RefRun.xzero_eq, e0, e2]

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelIdealFrame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims: the three programs run and stop at rest, the idealized kernel is the kernel's text, and it computes the
    reference's results. -/
theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => Cert.ReferenceIdeal.Gen.frame m ρ, trivial, Cert.Proof.Algebraic.algebraic⟩

end Cert.Proof

end
